-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x192x224x224 : Shape := ⟨4, ![1, 192, 224, 224]⟩
abbrev S192x576 : Shape := ⟨2, ![192, 576]⟩
abbrev S576x192 : Shape := ⟨2, ![576, 192]⟩
abbrev S192x192 : Shape := ⟨2, ![192, 192]⟩
abbrev S192 : Shape := ⟨1, ![192]⟩
abbrev S192x2 : Shape := ⟨2, ![192, 2]⟩
abbrev S50x2 : Shape := ⟨2, ![50, 2]⟩
abbrev S1x2 : Shape := ⟨2, ![1, 2]⟩
abbrev S_ : Shape := ⟨0, ![]⟩

class Facts : Prop where
  bcast_S_S1x192x224x224 : S_.BroadcastsInDim S1x192x224x224 (![] : Fin 0 → Fin S1x192x224x224.rank)
  reducesTo_S1x192x224x224_S_d0_1_2_3 : S1x192x224x224.ReducesTo [0, 1, 2, 3] S_
  h_S_ : 0 < S_.numel
  bcast_S_S192x576 : S_.BroadcastsInDim S192x576 (![] : Fin 0 → Fin S192x576.rank)
  reducesTo_S192x576_S_d0_1 : S192x576.ReducesTo [0, 1] S_
  bcast_S_S192x192 : S_.BroadcastsInDim S192x192 (![] : Fin 0 → Fin S192x192.rank)
  reducesTo_S192x192_S_d0_1 : S192x192.ReducesTo [0, 1] S_

variable [Facts]

def fn_part1 {F : FTy → Type} [FloatOps F] (main_v13 : IVec S_ 1) (main_v16 : IVec S192x192 1) : IVec S_ 1 :=
  let main_c_5 : IVec S_ 1 := constantI S_ 1 1#1
  let main_v17 : IVec S_ 1 := (fun x v => Host.reduce IntOp.andi x v reducesTo_S192x192_S_d0_1 h_S_) main_v16 main_c_5
  let main_v18 : IVec S_ 1 := andi main_v13 main_v17
  main_v18

def fn {F : FTy → Type} [FloatOps F] (main_arg0 : FVec F S1x192x224x224 .f32) (main_arg1 : FVec F S192x576 .f32) (main_arg2 : FVec F S192x576 .f32) (main_arg3 : FVec F S192x576 .f32) (main_arg4 : FVec F S576x192 .f32) (main_arg5 : FVec F S192x192 .f32) (main_arg6 : FVec F S192 .f32) (main_arg7 : FVec F S192x192 .f32) (main_arg8 : FVec F S192x2 .f32) (main_arg9 : FVec F S50x2 .f32) (main_arg10 : FVec F S1x2 .f32) : IVec S_ 1 :=
  let main_v0 : FVec F S1x192x224x224 .f32 := Host.absf main_arg0
  let main_cst : FVec F S_ .f32 := constant S_ .f32 0x7F800000#32
  let main_v1 : FVec F S1x192x224x224 .f32 := broadcastInDim S1x192x224x224 ![] bcast_S_S1x192x224x224 main_cst
  let main_v2 : IVec S1x192x224x224 1 := cmpf .olt main_v0 main_v1
  let main_c : IVec S_ 1 := constantI S_ 1 1#1
  let main_v3 : IVec S_ 1 := (fun x v => Host.reduce IntOp.andi x v reducesTo_S1x192x224x224_S_d0_1_2_3 h_S_) main_v2 main_c
  let main_v4 : FVec F S192x576 .f32 := Host.absf main_arg1
  let main_cst_0 : FVec F S_ .f32 := constant S_ .f32 0x7F800000#32
  let main_v5 : FVec F S192x576 .f32 := broadcastInDim S192x576 ![] bcast_S_S192x576 main_cst_0
  let main_v6 : IVec S192x576 1 := cmpf .olt main_v4 main_v5
  let main_c_1 : IVec S_ 1 := constantI S_ 1 1#1
  let main_v7 : IVec S_ 1 := (fun x v => Host.reduce IntOp.andi x v reducesTo_S192x576_S_d0_1 h_S_) main_v6 main_c_1
  let main_v8 : IVec S_ 1 := andi main_v3 main_v7
  let main_v9 : FVec F S192x576 .f32 := Host.absf main_arg2
  let main_cst_2 : FVec F S_ .f32 := constant S_ .f32 0x7F800000#32
  let main_v10 : FVec F S192x576 .f32 := broadcastInDim S192x576 ![] bcast_S_S192x576 main_cst_2
  let main_v11 : IVec S192x576 1 := cmpf .olt main_v9 main_v10
  let main_c_3 : IVec S_ 1 := constantI S_ 1 1#1
  let main_v12 : IVec S_ 1 := (fun x v => Host.reduce IntOp.andi x v reducesTo_S192x576_S_d0_1 h_S_) main_v11 main_c_3
  let main_v13 : IVec S_ 1 := andi main_v8 main_v12
  let main_v14 : FVec F S192x192 .f32 := Host.absf main_arg7
  let main_cst_4 : FVec F S_ .f32 := constant S_ .f32 0x7F800000#32
  let main_v15 : FVec F S192x192 .f32 := broadcastInDim S192x192 ![] bcast_S_S192x192 main_cst_4
  let main_v16 : IVec S192x192 1 := cmpf .olt main_v14 main_v15
  fn_part1 (F := F) main_v13 main_v16
-- ==== Kernel.lean ====
abbrev S1x192x224x224 : Shape := ⟨4, ![1, 192, 224, 224]⟩
abbrev S192x576 : Shape := ⟨2, ![192, 576]⟩
abbrev S576x192 : Shape := ⟨2, ![576, 192]⟩
abbrev S192x192 : Shape := ⟨2, ![192, 192]⟩
abbrev S192 : Shape := ⟨1, ![192]⟩
abbrev S192x2 : Shape := ⟨2, ![192, 2]⟩
abbrev S50x2 : Shape := ⟨2, ![50, 2]⟩
abbrev S1x2 : Shape := ⟨2, ![1, 2]⟩
abbrev S1792x28 : Shape := ⟨2, ![1792, 28]⟩
abbrev S784x21 : Shape := ⟨2, ![784, 21]⟩
abbrev S1x21 : Shape := ⟨2, ![1, 21]⟩
abbrev S192x50176 : Shape := ⟨2, ![192, 50176]⟩
abbrev S192x4x144 : Shape := ⟨3, ![192, 4, 144]⟩
abbrev S4x192x144 : Shape := ⟨3, ![4, 192, 144]⟩
abbrev S4x144x192 : Shape := ⟨3, ![4, 144, 192]⟩
abbrev S_ : Shape := ⟨0, ![]⟩
abbrev S192x14x2x28 : Shape := ⟨4, ![192, 14, 2, 28]⟩
abbrev S192x3584 : Shape := ⟨2, ![192, 3584]⟩
abbrev S192x1x2x28 : Shape := ⟨4, ![192, 1, 2, 28]⟩
abbrev S192x1792 : Shape := ⟨2, ![192, 1792]⟩
abbrev S1792x192 : Shape := ⟨2, ![1792, 192]⟩
abbrev S8x28x8x192 : Shape := ⟨4, ![8, 28, 8, 192]⟩
abbrev S28x8x8x192 : Shape := ⟨4, ![28, 8, 8, 192]⟩
abbrev S1x192x144 : Shape := ⟨3, ![1, 192, 144]⟩
abbrev S192x144 : Shape := ⟨2, ![192, 144]⟩
abbrev S1792x144 : Shape := ⟨2, ![1792, 144]⟩
abbrev S28x64x144 : Shape := ⟨3, ![28, 64, 144]⟩
abbrev S28x64x64 : Shape := ⟨3, ![28, 64, 64]⟩
abbrev S28x64 : Shape := ⟨2, ![28, 64]⟩
abbrev S28x64x1 : Shape := ⟨3, ![28, 64, 1]⟩
abbrev S1x144x192 : Shape := ⟨3, ![1, 144, 192]⟩
abbrev S144x192 : Shape := ⟨2, ![144, 192]⟩
abbrev S192x28 : Shape := ⟨2, ![192, 28]⟩
abbrev S192x1x1x28 : Shape := ⟨4, ![192, 1, 1, 28]⟩
abbrev S192x784 : Shape := ⟨2, ![192, 784]⟩
abbrev S192x21 : Shape := ⟨2, ![192, 21]⟩
abbrev S192x1 : Shape := ⟨2, ![192, 1]⟩
abbrev S192x7168 : Shape := ⟨2, ![192, 7168]⟩
abbrev S7168 : Shape := ⟨1, ![7168]⟩
abbrev S1x7168 : Shape := ⟨2, ![1, 7168]⟩

abbrev nBuf : Space → Nat
  | .hbm => 37
  | .vmem => 26
  | .smem => 0
  | _ => 0

abbrev bufTy : (tb : Table) → Fin (tcTables nBuf tb) → BufTy
  | .hbm, ⟨0, _⟩ => ⟨S1x192x224x224, .f32⟩
  | .hbm, ⟨1, _⟩ => ⟨S192x576, .f32⟩
  | .hbm, ⟨2, _⟩ => ⟨S192x576, .f32⟩
  | .hbm, ⟨3, _⟩ => ⟨S192x576, .f32⟩
  | .hbm, ⟨4, _⟩ => ⟨S576x192, .f32⟩
  | .hbm, ⟨5, _⟩ => ⟨S192x192, .f32⟩
  | .hbm, ⟨6, _⟩ => ⟨S192, .f32⟩
  | .hbm, ⟨7, _⟩ => ⟨S192x192, .f32⟩
  | .hbm, ⟨8, _⟩ => ⟨S192x2, .f32⟩
  | .hbm, ⟨9, _⟩ => ⟨S50x2, .f32⟩
  | .hbm, ⟨10, _⟩ => ⟨S1x2, .f32⟩
  | .hbm, ⟨11, _⟩ => ⟨S1792x28, .f32⟩
  | .hbm, ⟨12, _⟩ => ⟨S784x21, .f32⟩
  | .hbm, ⟨13, _⟩ => ⟨S1x21, .f32⟩
  | .hbm, ⟨14, _⟩ => ⟨S192x50176, .f32⟩
  | .hbm, ⟨15, _⟩ => ⟨S192x4x144, .f32⟩
  | .hbm, ⟨16, _⟩ => ⟨S4x192x144, .f32⟩
  | .hbm, ⟨17, _⟩ => ⟨S192x4x144, .f32⟩
  | .hbm, ⟨18, _⟩ => ⟨S4x192x144, .f32⟩
  | .hbm, ⟨19, _⟩ => ⟨S192x4x144, .f32⟩
  | .hbm, ⟨20, _⟩ => ⟨S4x192x144, .f32⟩
  | .hbm, ⟨21, _⟩ => ⟨S4x144x192, .f32⟩
  | .hbm, ⟨22, _⟩ => ⟨S192x192, .i32⟩
  | .hbm, ⟨23, _⟩ => ⟨S192x192, .i32⟩
  | .hbm, ⟨24, _⟩ => ⟨S_, .i32⟩
  | .hbm, ⟨25, _⟩ => ⟨S192x192, .i32⟩
  | .hbm, ⟨26, _⟩ => ⟨S192x192, .i32⟩
  | .hbm, ⟨27, _⟩ => ⟨S192x192, .i1⟩
  | .hbm, ⟨28, _⟩ => ⟨S192x192, .f32⟩
  | .hbm, ⟨29, _⟩ => ⟨S192x50176, .bf16⟩
  | .hbm, ⟨30, _⟩ => ⟨S192x14x2x28, .f32⟩
  | .hbm, ⟨31, _⟩ => ⟨S784x21, .f32⟩
  | .hbm, ⟨32, _⟩ => ⟨S784x21, .f32⟩
  | .hbm, ⟨33, _⟩ => ⟨S192x192, .f32⟩
  | .hbm, ⟨34, _⟩ => ⟨S192x1, .f32⟩
  | .hbm, ⟨35, _⟩ => ⟨S192x50176, .f32⟩
  | .hbm, ⟨36, _⟩ => ⟨S1x192x224x224, .f32⟩
  | .local _ .vmem, ⟨0, _⟩ => ⟨S192x3584, .f32⟩
  | .local _ .vmem, ⟨1, _⟩ => ⟨S192x3584, .f32⟩
  | .local _ .vmem, ⟨2, _⟩ => ⟨S192x192, .f32⟩
  | .local _ .vmem, ⟨3, _⟩ => ⟨S4x192x144, .f32⟩
  | .local _ .vmem, ⟨4, _⟩ => ⟨S4x192x144, .f32⟩
  | .local _ .vmem, ⟨5, _⟩ => ⟨S4x192x144, .f32⟩
  | .local _ .vmem, ⟨6, _⟩ => ⟨S4x144x192, .f32⟩
  | .local _ .vmem, ⟨7, _⟩ => ⟨S1792x28, .f32⟩
  | .local _ .vmem, ⟨8, _⟩ => ⟨S192x3584, .bf16⟩
  | .local _ .vmem, ⟨9, _⟩ => ⟨S192x3584, .bf16⟩
  | .local _ .vmem, ⟨10, _⟩ => ⟨S192x1x2x28, .f32⟩
  | .local _ .vmem, ⟨11, _⟩ => ⟨S192x1x2x28, .f32⟩
  | .local _ .vmem, ⟨12, _⟩ => ⟨S192x14x2x28, .f32⟩
  | .local _ .vmem, ⟨13, _⟩ => ⟨S784x21, .f32⟩
  | .local _ .vmem, ⟨14, _⟩ => ⟨S192x192, .f32⟩
  | .local _ .vmem, ⟨15, _⟩ => ⟨S192x192, .f32⟩
  | .local _ .vmem, ⟨16, _⟩ => ⟨S192x7168, .f32⟩
  | .local _ .vmem, ⟨17, _⟩ => ⟨S192x7168, .f32⟩
  | .local _ .vmem, ⟨18, _⟩ => ⟨S192x7168, .bf16⟩
  | .local _ .vmem, ⟨19, _⟩ => ⟨S192x7168, .bf16⟩
  | .local _ .vmem, ⟨20, _⟩ => ⟨S192x192, .f32⟩
  | .local _ .vmem, ⟨21, _⟩ => ⟨S192x192, .f32⟩
  | .local _ .vmem, ⟨22, _⟩ => ⟨S192x1, .f32⟩
  | .local _ .vmem, ⟨23, _⟩ => ⟨S192x2, .f32⟩
  | .local _ .vmem, ⟨24, _⟩ => ⟨S192x7168, .f32⟩
  | .local _ .vmem, ⟨25, _⟩ => ⟨S192x7168, .f32⟩
  | _, _ => ⟨S1x192x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg6_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S192x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x192x144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x192x144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x192x144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x144x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1792x28 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S192x3584 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x1x2x28 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := .none

abbrev stage1_0 : Fin 1 → Memref sig .tc .vmem S192x14x2x28 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S784x21 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S192x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S192x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨1, ![7], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S192x7168 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S192x7168 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S192x192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S192x192 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S192x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S192x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S192x7168 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== ReferenceIdeal.lean ====
abbrev S1x192x224x224 : Shape := ⟨4, ![1, 192, 224, 224]⟩
abbrev S192x576 : Shape := ⟨2, ![192, 576]⟩
abbrev S576x192 : Shape := ⟨2, ![576, 192]⟩
abbrev S192x192 : Shape := ⟨2, ![192, 192]⟩
abbrev S192 : Shape := ⟨1, ![192]⟩
abbrev S192x2 : Shape := ⟨2, ![192, 2]⟩
abbrev S50x2 : Shape := ⟨2, ![50, 2]⟩
abbrev S1x2 : Shape := ⟨2, ![1, 2]⟩
abbrev S1x224x224x192 : Shape := ⟨4, ![1, 224, 224, 192]⟩
abbrev S1x28x8x28x8x192 : Shape := ⟨6, ![1, 28, 8, 28, 8, 192]⟩
abbrev S1x28x28x8x8x192 : Shape := ⟨6, ![1, 28, 28, 8, 8, 192]⟩
abbrev S1x784x12288 : Shape := ⟨3, ![1, 784, 12288]⟩
abbrev S784x64x192 : Shape := ⟨3, ![784, 64, 192]⟩
abbrev S784x64x576 : Shape := ⟨3, ![784, 64, 576]⟩
abbrev S784x64x4x48 : Shape := ⟨4, ![784, 64, 4, 48]⟩
abbrev S784x4x64x48 : Shape := ⟨4, ![784, 4, 64, 48]⟩
abbrev S3136x64x48 : Shape := ⟨3, ![3136, 64, 48]⟩
abbrev S_ : Shape := ⟨0, ![]⟩
abbrev S3136x64 : Shape := ⟨2, ![3136, 64]⟩
abbrev S3136x64x1 : Shape := ⟨3, ![3136, 64, 1]⟩
abbrev S3136x1 : Shape := ⟨2, ![3136, 1]⟩
abbrev S3136x1x1 : Shape := ⟨3, ![3136, 1, 1]⟩
abbrev S3136x64x50 : Shape := ⟨3, ![3136, 64, 50]⟩
abbrev S3136x64x2 : Shape := ⟨3, ![3136, 64, 2]⟩
abbrev S1x1x2 : Shape := ⟨3, ![1, 1, 2]⟩
abbrev S2x3136x64 : Shape := ⟨3, ![2, 3136, 64]⟩
abbrev S784x64x4x144 : Shape := ⟨4, ![784, 64, 4, 144]⟩
abbrev S784x4x64x144 : Shape := ⟨4, ![784, 4, 64, 144]⟩
abbrev S3136x64x144 : Shape := ⟨3, ![3136, 64, 144]⟩
abbrev S3136 : Shape := ⟨1, ![3136]⟩
abbrev S1x3136x1 : Shape := ⟨3, ![1, 3136, 1]⟩
abbrev S401408 : Shape := ⟨1, ![401408]⟩
abbrev S200704x144 : Shape := ⟨2, ![200704, 144]⟩
abbrev S401408x1 : Shape := ⟨2, ![401408, 1]⟩
abbrev S1 : Shape := ⟨1, ![1]⟩
abbrev S1x1 : Shape := ⟨2, ![1, 1]⟩
abbrev S401408x144 : Shape := ⟨2, ![401408, 144]⟩
abbrev S6272x64x144 : Shape := ⟨3, ![6272, 64, 144]⟩
abbrev S6272x64x64 : Shape := ⟨3, ![6272, 64, 64]⟩
abbrev S6272x64 : Shape := ⟨2, ![6272, 64]⟩
abbrev S6272x64x1 : Shape := ⟨3, ![6272, 64, 1]⟩
abbrev S2x3136x64x144 : Shape := ⟨4, ![2, 3136, 64, 144]⟩
abbrev S6272 : Shape := ⟨1, ![6272]⟩
abbrev S6272x1 : Shape := ⟨2, ![6272, 1]⟩
abbrev S2x3136x64x1 : Shape := ⟨4, ![2, 3136, 64, 1]⟩
abbrev S1x1x1x1 : Shape := ⟨4, ![1, 1, 1, 1]⟩
abbrev S1x3136x64 : Shape := ⟨3, ![1, 3136, 64]⟩
abbrev S192x1x224x224 : Shape := ⟨4, ![192, 1, 224, 224]⟩
abbrev S1x192x1x224x1x224 : Shape := ⟨6, ![1, 192, 1, 224, 1, 224]⟩
abbrev S1x192x1x1 : Shape := ⟨4, ![1, 192, 1, 1]⟩
abbrev S1x192x1 : Shape := ⟨3, ![1, 192, 1]⟩
abbrev S1x192x2x112x2x112 : Shape := ⟨6, ![1, 192, 2, 112, 2, 112]⟩
abbrev S1x192x2x2 : Shape := ⟨4, ![1, 192, 2, 2]⟩
abbrev S1x192x4 : Shape := ⟨3, ![1, 192, 4]⟩
abbrev S1x192x4x56x4x56 : Shape := ⟨6, ![1, 192, 4, 56, 4, 56]⟩
abbrev S1x192x4x4 : Shape := ⟨4, ![1, 192, 4, 4]⟩
abbrev S1x192x16 : Shape := ⟨3, ![1, 192, 16]⟩
abbrev S1x192x21 : Shape := ⟨3, ![1, 192, 21]⟩
abbrev S1x192 : Shape := ⟨2, ![1, 192]⟩
abbrev S1x192x192 : Shape := ⟨3, ![1, 192, 192]⟩
abbrev S1x192x50176 : Shape := ⟨3, ![1, 192, 50176]⟩
abbrev S1x50176 : Shape := ⟨2, ![1, 50176]⟩
abbrev S1x1x50176 : Shape := ⟨3, ![1, 1, 50176]⟩
abbrev S192x1 : Shape := ⟨2, ![192, 1]⟩

abbrev nBuf : Space → Nat
  | .hbm => 339
  | .vmem => 0
  | .smem => 0
  | _ => 0

abbrev hbmTy0_0 (i : Nat) : BufTy := match i % 128 with
  | 0 => ⟨S1x192x224x224, .f32⟩
  | 1 => ⟨S192x576, .f32⟩
  | 2 => ⟨S192x576, .f32⟩
  | 3 => ⟨S192x576, .f32⟩
  | 4 => ⟨S576x192, .f32⟩
  | 5 => ⟨S192x192, .f32⟩
  | 6 => ⟨S192, .f32⟩
  | 7 => ⟨S192x192, .f32⟩
  | 8 => ⟨S192x2, .f32⟩
  | 9 => ⟨S50x2, .f32⟩
  | 10 => ⟨S1x2, .f32⟩
  | 11 => ⟨S1x224x224x192, .f32⟩
  | 12 => ⟨S1x28x8x28x8x192, .f32⟩
  | 13 => ⟨S1x28x28x8x8x192, .f32⟩
  | 14 => ⟨S1x784x12288, .f32⟩
  | 15 => ⟨S784x64x192, .f32⟩
  | 16 => ⟨S784x64x576, .f32⟩
  | 17 => ⟨S784x64x576, .f32⟩
  | 18 => ⟨S784x64x576, .f32⟩
  | 19 => ⟨S784x64x4x48, .f32⟩
  | 20 => ⟨S784x4x64x48, .f32⟩
  | 21 => ⟨S3136x64x48, .f32⟩
  | 22 => ⟨S3136x64x48, .f32⟩
  | 23 => ⟨S_, .f32⟩
  | 24 => ⟨S3136x64, .f32⟩
  | 25 => ⟨S3136x64x1, .f32⟩
  | 26 => ⟨S3136x64x1, .f32⟩
  | 27 => ⟨S_, .f32⟩
  | 28 => ⟨S3136x1, .f32⟩
  | 29 => ⟨S3136x1x1, .f32⟩
  | 30 => ⟨S3136x1x1, .f32⟩
  | 31 => ⟨S3136x64x1, .f32⟩
  | 32 => ⟨S3136x64x1, .f32⟩
  | 33 => ⟨S3136x64x1, .f32⟩
  | 34 => ⟨S_, .f32⟩
  | 35 => ⟨S3136x64x1, .f32⟩
  | 36 => ⟨S3136x64x1, .f32⟩
  | 37 => ⟨S3136x64x1, .f32⟩
  | 38 => ⟨S_, .f32⟩
  | 39 => ⟨S3136x64x1, .f32⟩
  | 40 => ⟨S3136x64x50, .f32⟩
  | 41 => ⟨S3136x64x2, .f32⟩
  | 42 => ⟨S1x1x2, .f32⟩
  | 43 => ⟨S3136x64x2, .f32⟩
  | 44 => ⟨S3136x64x2, .f32⟩
  | 45 => ⟨S_, .f32⟩
  | 46 => ⟨S3136x64x2, .f32⟩
  | 47 => ⟨S3136x64x2, .f32⟩
  | 48 => ⟨S2x3136x64, .f32⟩
  | 49 => ⟨S2x3136x64, .i32⟩
  | 50 => ⟨S2x3136x64, .f32⟩
  | 51 => ⟨S2x3136x64, .i32⟩
  | 52 => ⟨S784x64x4x144, .f32⟩
  | 53 => ⟨S784x4x64x144, .f32⟩
  | 54 => ⟨S3136x64x144, .f32⟩
  | 55 => ⟨S784x64x4x144, .f32⟩
  | 56 => ⟨S784x4x64x144, .f32⟩
  | 57 => ⟨S3136x64x144, .f32⟩
  | 58 => ⟨S784x64x4x144, .f32⟩
  | 59 => ⟨S784x4x64x144, .f32⟩
  | 60 => ⟨S3136x64x144, .f32⟩
  | 61 => ⟨S2x3136x64, .i32⟩
  | 62 => ⟨S2x3136x64, .i32⟩
  | 63 => ⟨S2x3136x64, .i32⟩
  | 64 => ⟨S3136, .i32⟩
  | 65 => ⟨S3136x1, .i32⟩
  | 66 => ⟨S_, .i32⟩
  | 67 => ⟨S3136x1, .i32⟩
  | 68 => ⟨S3136x1, .i32⟩
  | 69 => ⟨S1x3136x1, .i32⟩
  | 70 => ⟨S2x3136x64, .i32⟩
  | 71 => ⟨S2x3136x64, .i32⟩
  | 72 => ⟨S401408, .i32⟩
  | 73 => ⟨S200704x144, .f32⟩
  | 74 => ⟨S_, .i32⟩
  | 75 => ⟨S401408, .i32⟩
  | 76 => ⟨S401408, .i1⟩
  | 77 => ⟨S_, .i32⟩
  | 78 => ⟨S401408, .i32⟩
  | 79 => ⟨S401408, .i32⟩
  | 80 => ⟨S401408, .i32⟩
  | 81 => ⟨S401408x1, .i32⟩
  | 82 => ⟨S1, .i32⟩
  | 83 => ⟨S_, .i32⟩
  | 84 => ⟨S401408x1, .i32⟩
  | 85 => ⟨S401408x1, .i1⟩
  | 86 => ⟨S1x1, .i32⟩
  | 87 => ⟨S401408x1, .i32⟩
  | 88 => ⟨S401408x1, .i1⟩
  | 89 => ⟨S401408x1, .i1⟩
  | 90 => ⟨S_, .i1⟩
  | 91 => ⟨S401408, .i1⟩
  | 92 => ⟨S401408x144, .f32⟩
  | 93 => ⟨S401408x144, .i1⟩
  | 94 => ⟨S_, .f32⟩
  | 95 => ⟨S401408x144, .f32⟩
  | 96 => ⟨S401408x144, .f32⟩
  | 97 => ⟨S6272x64x144, .f32⟩
  | 98 => ⟨S200704x144, .f32⟩
  | 99 => ⟨S_, .i32⟩
  | 100 => ⟨S401408, .i32⟩
  | 101 => ⟨S401408, .i1⟩
  | 102 => ⟨S_, .i32⟩
  | 103 => ⟨S401408, .i32⟩
  | 104 => ⟨S401408, .i32⟩
  | 105 => ⟨S401408, .i32⟩
  | 106 => ⟨S401408x1, .i32⟩
  | 107 => ⟨S1, .i32⟩
  | 108 => ⟨S_, .i32⟩
  | 109 => ⟨S401408x1, .i32⟩
  | 110 => ⟨S401408x1, .i1⟩
  | 111 => ⟨S1x1, .i32⟩
  | 112 => ⟨S401408x1, .i32⟩
  | 113 => ⟨S401408x1, .i1⟩
  | 114 => ⟨S401408x1, .i1⟩
  | 115 => ⟨S_, .i1⟩
  | 116 => ⟨S401408, .i1⟩
  | 117 => ⟨S401408x144, .f32⟩
  | 118 => ⟨S401408x144, .i1⟩
  | 119 => ⟨S_, .f32⟩
  | 120 => ⟨S401408x144, .f32⟩
  | 121 => ⟨S401408x144, .f32⟩
  | 122 => ⟨S6272x64x144, .f32⟩
  | 123 => ⟨S200704x144, .f32⟩
  | 124 => ⟨S_, .i32⟩
  | 125 => ⟨S401408, .i32⟩
  | 126 => ⟨S401408, .i1⟩
  | 127 => ⟨S_, .i32⟩
  | _ => ⟨S1x192x224x224, .f32⟩

abbrev hbmTy0_1 (i : Nat) : BufTy := match i % 128 with
  | 0 => ⟨S401408, .i32⟩
  | 1 => ⟨S401408, .i32⟩
  | 2 => ⟨S401408, .i32⟩
  | 3 => ⟨S401408x1, .i32⟩
  | 4 => ⟨S1, .i32⟩
  | 5 => ⟨S_, .i32⟩
  | 6 => ⟨S401408x1, .i32⟩
  | 7 => ⟨S401408x1, .i1⟩
  | 8 => ⟨S1x1, .i32⟩
  | 9 => ⟨S401408x1, .i32⟩
  | 10 => ⟨S401408x1, .i1⟩
  | 11 => ⟨S401408x1, .i1⟩
  | 12 => ⟨S_, .i1⟩
  | 13 => ⟨S401408, .i1⟩
  | 14 => ⟨S401408x144, .f32⟩
  | 15 => ⟨S401408x144, .i1⟩
  | 16 => ⟨S_, .f32⟩
  | 17 => ⟨S401408x144, .f32⟩
  | 18 => ⟨S401408x144, .f32⟩
  | 19 => ⟨S6272x64x144, .f32⟩
  | 20 => ⟨S6272x64x64, .f32⟩
  | 21 => ⟨S_, .f32⟩
  | 22 => ⟨S6272x64, .f32⟩
  | 23 => ⟨S6272x64x1, .f32⟩
  | 24 => ⟨S6272x64x1, .f32⟩
  | 25 => ⟨S_, .f32⟩
  | 26 => ⟨S6272x64x1, .f32⟩
  | 27 => ⟨S6272x64x1, .i1⟩
  | 28 => ⟨S_, .f32⟩
  | 29 => ⟨S_, .f32⟩
  | 30 => ⟨S6272x64x1, .f32⟩
  | 31 => ⟨S6272x64x1, .f32⟩
  | 32 => ⟨S6272x64x64, .f32⟩
  | 33 => ⟨S6272x64x64, .f32⟩
  | 34 => ⟨S6272x64x64, .f32⟩
  | 35 => ⟨S_, .f32⟩
  | 36 => ⟨S6272x64, .f32⟩
  | 37 => ⟨S6272x64x1, .f32⟩
  | 38 => ⟨S6272x64x1, .f32⟩
  | 39 => ⟨S6272x64x1, .f32⟩
  | 40 => ⟨S6272x64x64, .f32⟩
  | 41 => ⟨S6272x64x64, .f32⟩
  | 42 => ⟨S6272x64x64, .f32⟩
  | 43 => ⟨S6272x64x144, .f32⟩
  | 44 => ⟨S2x3136x64x144, .f32⟩
  | 45 => ⟨S6272, .i32⟩
  | 46 => ⟨S6272x1, .i32⟩
  | 47 => ⟨S_, .i32⟩
  | 48 => ⟨S6272x1, .i32⟩
  | 49 => ⟨S6272x1, .i32⟩
  | 50 => ⟨S6272x64, .i32⟩
  | 51 => ⟨S6272x64, .i32⟩
  | 52 => ⟨S6272x64, .i32⟩
  | 53 => ⟨S401408, .i32⟩
  | 54 => ⟨S401408x144, .f32⟩
  | 55 => ⟨S_, .i32⟩
  | 56 => ⟨S401408, .i32⟩
  | 57 => ⟨S401408, .i1⟩
  | 58 => ⟨S_, .i32⟩
  | 59 => ⟨S401408, .i32⟩
  | 60 => ⟨S401408, .i32⟩
  | 61 => ⟨S401408, .i32⟩
  | 62 => ⟨S401408x1, .i32⟩
  | 63 => ⟨S1, .i32⟩
  | 64 => ⟨S_, .i32⟩
  | 65 => ⟨S401408x1, .i32⟩
  | 66 => ⟨S401408x1, .i1⟩
  | 67 => ⟨S1x1, .i32⟩
  | 68 => ⟨S401408x1, .i32⟩
  | 69 => ⟨S401408x1, .i1⟩
  | 70 => ⟨S401408x1, .i1⟩
  | 71 => ⟨S_, .i1⟩
  | 72 => ⟨S401408, .i1⟩
  | 73 => ⟨S401408x144, .f32⟩
  | 74 => ⟨S401408x144, .i1⟩
  | 75 => ⟨S_, .f32⟩
  | 76 => ⟨S401408x144, .f32⟩
  | 77 => ⟨S401408x144, .f32⟩
  | 78 => ⟨S2x3136x64x144, .f32⟩
  | 79 => ⟨S2x3136x64, .f32⟩
  | 80 => ⟨S_, .i32⟩
  | 81 => ⟨S2x3136x64, .i32⟩
  | 82 => ⟨S2x3136x64, .i1⟩
  | 83 => ⟨S_, .i32⟩
  | 84 => ⟨S2x3136x64, .i32⟩
  | 85 => ⟨S2x3136x64, .i32⟩
  | 86 => ⟨S2x3136x64, .i32⟩
  | 87 => ⟨S2x3136x64x1, .i32⟩
  | 88 => ⟨S1, .i32⟩
  | 89 => ⟨S_, .i32⟩
  | 90 => ⟨S2x3136x64x1, .i32⟩
  | 91 => ⟨S2x3136x64x1, .i1⟩
  | 92 => ⟨S1x1x1x1, .i32⟩
  | 93 => ⟨S2x3136x64x1, .i32⟩
  | 94 => ⟨S2x3136x64x1, .i1⟩
  | 95 => ⟨S2x3136x64x1, .i1⟩
  | 96 => ⟨S_, .i1⟩
  | 97 => ⟨S2x3136x64, .i1⟩
  | 98 => ⟨S2x3136x64, .f32⟩
  | 99 => ⟨S_, .f32⟩
  | 100 => ⟨S2x3136x64, .f32⟩
  | 101 => ⟨S2x3136x64, .f32⟩
  | 102 => ⟨S_, .f32⟩
  | 103 => ⟨S3136x64, .f32⟩
  | 104 => ⟨S1x3136x64, .f32⟩
  | 105 => ⟨S1x3136x64, .f32⟩
  | 106 => ⟨S_, .f32⟩
  | 107 => ⟨S1x3136x64, .f32⟩
  | 108 => ⟨S1x3136x64, .i1⟩
  | 109 => ⟨S_, .f32⟩
  | 110 => ⟨S_, .f32⟩
  | 111 => ⟨S1x3136x64, .f32⟩
  | 112 => ⟨S1x3136x64, .f32⟩
  | 113 => ⟨S2x3136x64, .f32⟩
  | 114 => ⟨S2x3136x64, .f32⟩
  | 115 => ⟨S2x3136x64, .f32⟩
  | 116 => ⟨S_, .f32⟩
  | 117 => ⟨S3136x64, .f32⟩
  | 118 => ⟨S1x3136x64, .f32⟩
  | 119 => ⟨S1x3136x64, .f32⟩
  | 120 => ⟨S1x3136x64, .f32⟩
  | 121 => ⟨S2x3136x64, .f32⟩
  | 122 => ⟨S2x3136x64, .f32⟩
  | 123 => ⟨S2x3136x64, .f32⟩
  | 124 => ⟨S2x3136x64x1, .f32⟩
  | 125 => ⟨S2x3136x64x144, .f32⟩
  | 126 => ⟨S2x3136x64x144, .f32⟩
  | 127 => ⟨S_, .f32⟩
  | _ => ⟨S1x192x224x224, .f32⟩

abbrev hbmTy0_2 (i : Nat) : BufTy := match i % 128 with
  | 0 => ⟨S3136x64x144, .f32⟩
  | 1 => ⟨S784x4x64x144, .f32⟩
  | 2 => ⟨S784x64x4x144, .f32⟩
  | 3 => ⟨S784x64x576, .f32⟩
  | 4 => ⟨S784x64x192, .f32⟩
  | 5 => ⟨S1x784x12288, .f32⟩
  | 6 => ⟨S1x28x28x8x8x192, .f32⟩
  | 7 => ⟨S1x28x8x28x8x192, .f32⟩
  | 8 => ⟨S1x224x224x192, .f32⟩
  | 9 => ⟨S1x192x224x224, .f32⟩
  | 10 => ⟨S192x1x224x224, .f32⟩
  | 11 => ⟨S1x192x224x224, .f32⟩
  | 12 => ⟨S1x192x1x224x1x224, .f32⟩
  | 13 => ⟨S_, .f32⟩
  | 14 => ⟨S1x192x1x1, .f32⟩
  | 15 => ⟨S_, .f32⟩
  | 16 => ⟨S1x192x1x1, .f32⟩
  | 17 => ⟨S1x192x1x1, .f32⟩
  | 18 => ⟨S1x192x1, .f32⟩
  | 19 => ⟨S1x192x2x112x2x112, .f32⟩
  | 20 => ⟨S_, .f32⟩
  | 21 => ⟨S1x192x2x2, .f32⟩
  | 22 => ⟨S_, .f32⟩
  | 23 => ⟨S1x192x2x2, .f32⟩
  | 24 => ⟨S1x192x2x2, .f32⟩
  | 25 => ⟨S1x192x4, .f32⟩
  | 26 => ⟨S1x192x4x56x4x56, .f32⟩
  | 27 => ⟨S_, .f32⟩
  | 28 => ⟨S1x192x4x4, .f32⟩
  | 29 => ⟨S_, .f32⟩
  | 30 => ⟨S1x192x4x4, .f32⟩
  | 31 => ⟨S1x192x4x4, .f32⟩
  | 32 => ⟨S1x192x16, .f32⟩
  | 33 => ⟨S1x192x21, .f32⟩
  | 34 => ⟨S_, .f32⟩
  | 35 => ⟨S1x192, .f32⟩
  | 36 => ⟨S_, .f32⟩
  | 37 => ⟨S1x192, .f32⟩
  | 38 => ⟨S1x192, .f32⟩
  | 39 => ⟨S1x192x1, .f32⟩
  | 40 => ⟨S1x192x21, .f32⟩
  | 41 => ⟨S1x192x21, .f32⟩
  | 42 => ⟨S1x192x21, .f32⟩
  | 43 => ⟨S_, .f32⟩
  | 44 => ⟨S1x192, .f32⟩
  | 45 => ⟨S1x192x1, .f32⟩
  | 46 => ⟨S1x192x21, .f32⟩
  | 47 => ⟨S1x192x21, .f32⟩
  | 48 => ⟨S1x192x192, .f32⟩
  | 49 => ⟨S192x1x224x224, .f32⟩
  | 50 => ⟨S1x192x224x224, .f32⟩
  | 51 => ⟨S1x192x1x1, .f32⟩
  | 52 => ⟨S1x192x224x224, .f32⟩
  | 53 => ⟨S1x192x224x224, .f32⟩
  | 54 => ⟨S1x192x50176, .f32⟩
  | 55 => ⟨S_, .f32⟩
  | 56 => ⟨S1x50176, .f32⟩
  | 57 => ⟨S_, .f32⟩
  | 58 => ⟨S1x50176, .f32⟩
  | 59 => ⟨S1x50176, .f32⟩
  | 60 => ⟨S1x1x50176, .f32⟩
  | 61 => ⟨S1x192x50176, .f32⟩
  | 62 => ⟨S1x192x50176, .f32⟩
  | 63 => ⟨S1x192x50176, .f32⟩
  | 64 => ⟨S_, .f32⟩
  | 65 => ⟨S1x50176, .f32⟩
  | 66 => ⟨S1x1x50176, .f32⟩
  | 67 => ⟨S1x192x50176, .f32⟩
  | 68 => ⟨S1x192x50176, .f32⟩
  | 69 => ⟨S1x192x50176, .f32⟩
  | 70 => ⟨S1x192x224x224, .f32⟩
  | 71 => ⟨S1x192x224x224, .f32⟩
  | 72 => ⟨S192x1, .f32⟩
  | 73 => ⟨S192, .f32⟩
  | 74 => ⟨S1x192x1x1, .f32⟩
  | 75 => ⟨S1x192x224x224, .f32⟩
  | 76 => ⟨S1x192x224x224, .f32⟩
  | 77 => ⟨S192x1, .f32⟩
  | 78 => ⟨S192, .f32⟩
  | 79 => ⟨S1x192x1x1, .f32⟩
  | 80 => ⟨S1x192x224x224, .f32⟩
  | 81 => ⟨S1x192x224x224, .f32⟩
  | 82 => ⟨S1x192x224x224, .f32⟩
  | _ => ⟨S1x192x224x224, .f32⟩

abbrev hbmTy (i : Nat) : BufTy := match i / 128 with
  | 0 => hbmTy0_0 i
  | 1 => hbmTy0_1 i
  | 2 => hbmTy0_2 i
  | _ => ⟨S1x192x224x224, .f32⟩

abbrev bufTy : (tb : Table) → Fin (tcTables nBuf tb) → BufTy
  | .hbm, ⟨i, _⟩ => hbmTy i
  | _, _ => ⟨S1x192x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_call1_v0 : Ref sig .tc := ⟨.hbm, 49, rfl⟩
abbrev main_call1_v1_0 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call2_v0 : Ref sig .tc := ⟨.hbm, 61, rfl⟩
abbrev main_call2_v1_0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_call3_c : Ref sig .tc := ⟨.hbm, 74, rfl⟩
abbrev main_call3_v0 : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_c_1 : Ref sig .tc := ⟨.hbm, 82, rfl⟩
abbrev main_call3_c_2 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_3 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_call3_cst : Ref sig .tc := ⟨.hbm, 94, rfl⟩
abbrev main_call3_v15 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_call4_c : Ref sig .tc := ⟨.hbm, 99, rfl⟩
abbrev main_call4_v0 : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_c_1 : Ref sig .tc := ⟨.hbm, 107, rfl⟩
abbrev main_call4_c_2 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_v9 : Ref sig .tc := ⟨.hbm, 112, rfl⟩
abbrev main_call4_v10 : Ref sig .tc := ⟨.hbm, 113, rfl⟩
abbrev main_call4_v11 : Ref sig .tc := ⟨.hbm, 114, rfl⟩
abbrev main_call4_c_3 : Ref sig .tc := ⟨.hbm, 115, rfl⟩
abbrev main_call4_v12 : Ref sig .tc := ⟨.hbm, 116, rfl⟩
abbrev main_call4_v13 : Ref sig .tc := ⟨.hbm, 117, rfl⟩
abbrev main_call4_v14 : Ref sig .tc := ⟨.hbm, 118, rfl⟩
abbrev main_call4_cst : Ref sig .tc := ⟨.hbm, 119, rfl⟩
abbrev main_call4_v15 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_call5_c : Ref sig .tc := ⟨.hbm, 124, rfl⟩
abbrev main_call5_v0 : Ref sig .tc := ⟨.hbm, 125, rfl⟩
abbrev main_call5_v1 : Ref sig .tc := ⟨.hbm, 126, rfl⟩
abbrev main_call5_c_0 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_call5_v5 : Ref sig .tc := ⟨.hbm, 131, rfl⟩
abbrev main_call5_c_1 : Ref sig .tc := ⟨.hbm, 132, rfl⟩
abbrev main_call5_c_2 : Ref sig .tc := ⟨.hbm, 133, rfl⟩
abbrev main_call5_v6 : Ref sig .tc := ⟨.hbm, 134, rfl⟩
abbrev main_call5_v7 : Ref sig .tc := ⟨.hbm, 135, rfl⟩
abbrev main_call5_v8 : Ref sig .tc := ⟨.hbm, 136, rfl⟩
abbrev main_call5_v9 : Ref sig .tc := ⟨.hbm, 137, rfl⟩
abbrev main_call5_v10 : Ref sig .tc := ⟨.hbm, 138, rfl⟩
abbrev main_call5_v11 : Ref sig .tc := ⟨.hbm, 139, rfl⟩
abbrev main_call5_c_3 : Ref sig .tc := ⟨.hbm, 140, rfl⟩
abbrev main_call5_v12 : Ref sig .tc := ⟨.hbm, 141, rfl⟩
abbrev main_call5_v13 : Ref sig .tc := ⟨.hbm, 142, rfl⟩
abbrev main_call5_v14 : Ref sig .tc := ⟨.hbm, 143, rfl⟩
abbrev main_call5_cst : Ref sig .tc := ⟨.hbm, 144, rfl⟩
abbrev main_call5_v15 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_cst_3 : Ref sig .tc := ⟨.hbm, 149, rfl⟩
abbrev main_v59 : Ref sig .tc := ⟨.hbm, 150, rfl⟩
abbrev main_v60 : Ref sig .tc := ⟨.hbm, 151, rfl⟩
abbrev main_v61 : Ref sig .tc := ⟨.hbm, 152, rfl⟩
abbrev main_cst_4 : Ref sig .tc := ⟨.hbm, 153, rfl⟩
abbrev main_v62 : Ref sig .tc := ⟨.hbm, 154, rfl⟩
abbrev main_v63 : Ref sig .tc := ⟨.hbm, 155, rfl⟩
abbrev main_cst_5 : Ref sig .tc := ⟨.hbm, 156, rfl⟩
abbrev main_call6_v0 : Ref sig .tc := ⟨.hbm, 157, rfl⟩
abbrev main_call6_v1 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_cst_6 : Ref sig .tc := ⟨.hbm, 163, rfl⟩
abbrev main_v68 : Ref sig .tc := ⟨.hbm, 164, rfl⟩
abbrev main_v69 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_c_7 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_call7_c : Ref sig .tc := ⟨.hbm, 183, rfl⟩
abbrev main_call7_v0 : Ref sig .tc := ⟨.hbm, 184, rfl⟩
abbrev main_call7_v1 : Ref sig .tc := ⟨.hbm, 185, rfl⟩
abbrev main_call7_c_0 : Ref sig .tc := ⟨.hbm, 186, rfl⟩
abbrev main_call7_v2 : Ref sig .tc := ⟨.hbm, 187, rfl⟩
abbrev main_call7_v3 : Ref sig .tc := ⟨.hbm, 188, rfl⟩
abbrev main_call7_v4 : Ref sig .tc := ⟨.hbm, 189, rfl⟩
abbrev main_call7_v5 : Ref sig .tc := ⟨.hbm, 190, rfl⟩
abbrev main_call7_c_1 : Ref sig .tc := ⟨.hbm, 191, rfl⟩
abbrev main_call7_c_2 : Ref sig .tc := ⟨.hbm, 192, rfl⟩
abbrev main_call7_v6 : Ref sig .tc := ⟨.hbm, 193, rfl⟩
abbrev main_call7_v7 : Ref sig .tc := ⟨.hbm, 194, rfl⟩
abbrev main_call7_v8 : Ref sig .tc := ⟨.hbm, 195, rfl⟩
abbrev main_call7_v9 : Ref sig .tc := ⟨.hbm, 196, rfl⟩
abbrev main_call7_v10 : Ref sig .tc := ⟨.hbm, 197, rfl⟩
abbrev main_call7_v11 : Ref sig .tc := ⟨.hbm, 198, rfl⟩
abbrev main_call7_c_3 : Ref sig .tc := ⟨.hbm, 199, rfl⟩
abbrev main_call7_v12 : Ref sig .tc := ⟨.hbm, 200, rfl⟩
abbrev main_call7_v13 : Ref sig .tc := ⟨.hbm, 201, rfl⟩
abbrev main_call7_v14 : Ref sig .tc := ⟨.hbm, 202, rfl⟩
abbrev main_call7_cst : Ref sig .tc := ⟨.hbm, 203, rfl⟩
abbrev main_call7_v15 : Ref sig .tc := ⟨.hbm, 204, rfl⟩
abbrev main_v86 : Ref sig .tc := ⟨.hbm, 205, rfl⟩
abbrev main_v87 : Ref sig .tc := ⟨.hbm, 206, rfl⟩
abbrev main_v88 : Ref sig .tc := ⟨.hbm, 207, rfl⟩
abbrev main_call8_c : Ref sig .tc := ⟨.hbm, 208, rfl⟩
abbrev main_call8_v0 : Ref sig .tc := ⟨.hbm, 209, rfl⟩
abbrev main_call8_v1 : Ref sig .tc := ⟨.hbm, 210, rfl⟩
abbrev main_call8_c_0 : Ref sig .tc := ⟨.hbm, 211, rfl⟩
abbrev main_call8_v2 : Ref sig .tc := ⟨.hbm, 212, rfl⟩
abbrev main_call8_v3 : Ref sig .tc := ⟨.hbm, 213, rfl⟩
abbrev main_call8_v4 : Ref sig .tc := ⟨.hbm, 214, rfl⟩
abbrev main_call8_v5 : Ref sig .tc := ⟨.hbm, 215, rfl⟩
abbrev main_call8_c_1 : Ref sig .tc := ⟨.hbm, 216, rfl⟩
abbrev main_call8_c_2 : Ref sig .tc := ⟨.hbm, 217, rfl⟩
abbrev main_call8_v6 : Ref sig .tc := ⟨.hbm, 218, rfl⟩
abbrev main_call8_v7 : Ref sig .tc := ⟨.hbm, 219, rfl⟩
abbrev main_call8_v8 : Ref sig .tc := ⟨.hbm, 220, rfl⟩
abbrev main_call8_v9 : Ref sig .tc := ⟨.hbm, 221, rfl⟩
abbrev main_call8_v10 : Ref sig .tc := ⟨.hbm, 222, rfl⟩
abbrev main_call8_v11 : Ref sig .tc := ⟨.hbm, 223, rfl⟩
abbrev main_call8_c_3 : Ref sig .tc := ⟨.hbm, 224, rfl⟩
abbrev main_call8_v12 : Ref sig .tc := ⟨.hbm, 225, rfl⟩
abbrev main_call8_v13 : Ref sig .tc := ⟨.hbm, 226, rfl⟩
abbrev main_call8_cst : Ref sig .tc := ⟨.hbm, 227, rfl⟩
abbrev main_call8_v14 : Ref sig .tc := ⟨.hbm, 228, rfl⟩
abbrev main_v89 : Ref sig .tc := ⟨.hbm, 229, rfl⟩
abbrev main_cst_8 : Ref sig .tc := ⟨.hbm, 230, rfl⟩
abbrev main_v90 : Ref sig .tc := ⟨.hbm, 231, rfl⟩
abbrev main_v91 : Ref sig .tc := ⟨.hbm, 232, rfl⟩
abbrev main_v92 : Ref sig .tc := ⟨.hbm, 233, rfl⟩
abbrev main_cst_9 : Ref sig .tc := ⟨.hbm, 234, rfl⟩
abbrev main_v93 : Ref sig .tc := ⟨.hbm, 235, rfl⟩
abbrev main_v94 : Ref sig .tc := ⟨.hbm, 236, rfl⟩
abbrev main_cst_10 : Ref sig .tc := ⟨.hbm, 237, rfl⟩
abbrev main_call9_v0 : Ref sig .tc := ⟨.hbm, 238, rfl⟩
abbrev main_call9_v1 : Ref sig .tc := ⟨.hbm, 239, rfl⟩
abbrev main_v95 : Ref sig .tc := ⟨.hbm, 240, rfl⟩
abbrev main_v96 : Ref sig .tc := ⟨.hbm, 241, rfl⟩
abbrev main_v97 : Ref sig .tc := ⟨.hbm, 242, rfl⟩
abbrev main_v98 : Ref sig .tc := ⟨.hbm, 243, rfl⟩
abbrev main_cst_11 : Ref sig .tc := ⟨.hbm, 244, rfl⟩
abbrev main_v99 : Ref sig .tc := ⟨.hbm, 245, rfl⟩
abbrev main_v100 : Ref sig .tc := ⟨.hbm, 246, rfl⟩
abbrev main_v101 : Ref sig .tc := ⟨.hbm, 247, rfl⟩
abbrev main_v102 : Ref sig .tc := ⟨.hbm, 248, rfl⟩
abbrev main_v103 : Ref sig .tc := ⟨.hbm, 249, rfl⟩
abbrev main_v104 : Ref sig .tc := ⟨.hbm, 250, rfl⟩
abbrev main_v105 : Ref sig .tc := ⟨.hbm, 251, rfl⟩
abbrev main_v106 : Ref sig .tc := ⟨.hbm, 252, rfl⟩
abbrev main_v107 : Ref sig .tc := ⟨.hbm, 253, rfl⟩
abbrev main_v108 : Ref sig .tc := ⟨.hbm, 254, rfl⟩
abbrev main_cst_12 : Ref sig .tc := ⟨.hbm, 255, rfl⟩
abbrev main_v109 : Ref sig .tc := ⟨.hbm, 256, rfl⟩
abbrev main_v110 : Ref sig .tc := ⟨.hbm, 257, rfl⟩
abbrev main_v111 : Ref sig .tc := ⟨.hbm, 258, rfl⟩
abbrev main_v112 : Ref sig .tc := ⟨.hbm, 259, rfl⟩
abbrev main_v113 : Ref sig .tc := ⟨.hbm, 260, rfl⟩
abbrev main_v114 : Ref sig .tc := ⟨.hbm, 261, rfl⟩
abbrev main_v115 : Ref sig .tc := ⟨.hbm, 262, rfl⟩
abbrev main_v116 : Ref sig .tc := ⟨.hbm, 263, rfl⟩
abbrev main_v117 : Ref sig .tc := ⟨.hbm, 264, rfl⟩
abbrev main_v118 : Ref sig .tc := ⟨.hbm, 265, rfl⟩
abbrev main_v119 : Ref sig .tc := ⟨.hbm, 266, rfl⟩
abbrev main_v120 : Ref sig .tc := ⟨.hbm, 267, rfl⟩
abbrev main_v121 : Ref sig .tc := ⟨.hbm, 268, rfl⟩
abbrev main_cst_13 : Ref sig .tc := ⟨.hbm, 269, rfl⟩
abbrev main_v122 : Ref sig .tc := ⟨.hbm, 270, rfl⟩
abbrev main_cst_14 : Ref sig .tc := ⟨.hbm, 271, rfl⟩
abbrev main_v123 : Ref sig .tc := ⟨.hbm, 272, rfl⟩
abbrev main_v124 : Ref sig .tc := ⟨.hbm, 273, rfl⟩
abbrev main_v125 : Ref sig .tc := ⟨.hbm, 274, rfl⟩
abbrev main_v126 : Ref sig .tc := ⟨.hbm, 275, rfl⟩
abbrev main_cst_15 : Ref sig .tc := ⟨.hbm, 276, rfl⟩
abbrev main_v127 : Ref sig .tc := ⟨.hbm, 277, rfl⟩
abbrev main_cst_16 : Ref sig .tc := ⟨.hbm, 278, rfl⟩
abbrev main_v128 : Ref sig .tc := ⟨.hbm, 279, rfl⟩
abbrev main_v129 : Ref sig .tc := ⟨.hbm, 280, rfl⟩
abbrev main_v130 : Ref sig .tc := ⟨.hbm, 281, rfl⟩
abbrev main_v131 : Ref sig .tc := ⟨.hbm, 282, rfl⟩
abbrev main_cst_17 : Ref sig .tc := ⟨.hbm, 283, rfl⟩
abbrev main_v132 : Ref sig .tc := ⟨.hbm, 284, rfl⟩
abbrev main_cst_18 : Ref sig .tc := ⟨.hbm, 285, rfl⟩
abbrev main_v133 : Ref sig .tc := ⟨.hbm, 286, rfl⟩
abbrev main_v134 : Ref sig .tc := ⟨.hbm, 287, rfl⟩
abbrev main_v135 : Ref sig .tc := ⟨.hbm, 288, rfl⟩
abbrev main_v136 : Ref sig .tc := ⟨.hbm, 289, rfl⟩
abbrev main_cst_19 : Ref sig .tc := ⟨.hbm, 290, rfl⟩
abbrev main_v137 : Ref sig .tc := ⟨.hbm, 291, rfl⟩
abbrev main_cst_20 : Ref sig .tc := ⟨.hbm, 292, rfl⟩
abbrev main_v138 : Ref sig .tc := ⟨.hbm, 293, rfl⟩
abbrev main_v139 : Ref sig .tc := ⟨.hbm, 294, rfl⟩
abbrev main_v140 : Ref sig .tc := ⟨.hbm, 295, rfl⟩
abbrev main_v141 : Ref sig .tc := ⟨.hbm, 296, rfl⟩
abbrev main_v142 : Ref sig .tc := ⟨.hbm, 297, rfl⟩
abbrev main_v143 : Ref sig .tc := ⟨.hbm, 298, rfl⟩
abbrev main_cst_21 : Ref sig .tc := ⟨.hbm, 299, rfl⟩
abbrev main_v144 : Ref sig .tc := ⟨.hbm, 300, rfl⟩
abbrev main_v145 : Ref sig .tc := ⟨.hbm, 301, rfl⟩
abbrev main_v146 : Ref sig .tc := ⟨.hbm, 302, rfl⟩
abbrev main_v147 : Ref sig .tc := ⟨.hbm, 303, rfl⟩
abbrev main_v148 : Ref sig .tc := ⟨.hbm, 304, rfl⟩
abbrev main_v149 : Ref sig .tc := ⟨.hbm, 305, rfl⟩
abbrev main_v150 : Ref sig .tc := ⟨.hbm, 306, rfl⟩
abbrev main_v151 : Ref sig .tc := ⟨.hbm, 307, rfl⟩
abbrev main_v152 : Ref sig .tc := ⟨.hbm, 308, rfl⟩
abbrev main_v153 : Ref sig .tc := ⟨.hbm, 309, rfl⟩
abbrev main_v154 : Ref sig .tc := ⟨.hbm, 310, rfl⟩
abbrev main_cst_22 : Ref sig .tc := ⟨.hbm, 311, rfl⟩
abbrev main_v155 : Ref sig .tc := ⟨.hbm, 312, rfl⟩
abbrev main_cst_23 : Ref sig .tc := ⟨.hbm, 313, rfl⟩
abbrev main_v156 : Ref sig .tc := ⟨.hbm, 314, rfl⟩
abbrev main_v157 : Ref sig .tc := ⟨.hbm, 315, rfl⟩
abbrev main_v158 : Ref sig .tc := ⟨.hbm, 316, rfl⟩
abbrev main_v159 : Ref sig .tc := ⟨.hbm, 317, rfl⟩
abbrev main_v160 : Ref sig .tc := ⟨.hbm, 318, rfl⟩
abbrev main_v161 : Ref sig .tc := ⟨.hbm, 319, rfl⟩
abbrev main_cst_24 : Ref sig .tc := ⟨.hbm, 320, rfl⟩
abbrev main_v162 : Ref sig .tc := ⟨.hbm, 321, rfl⟩
abbrev main_v163 : Ref sig .tc := ⟨.hbm, 322, rfl⟩
abbrev main_v164 : Ref sig .tc := ⟨.hbm, 323, rfl⟩
abbrev main_v165 : Ref sig .tc := ⟨.hbm, 324, rfl⟩
abbrev main_v166 : Ref sig .tc := ⟨.hbm, 325, rfl⟩
abbrev main_v167 : Ref sig .tc := ⟨.hbm, 326, rfl⟩
abbrev main_v168 : Ref sig .tc := ⟨.hbm, 327, rfl⟩
abbrev main_v169 : Ref sig .tc := ⟨.hbm, 328, rfl⟩
abbrev main_v170 : Ref sig .tc := ⟨.hbm, 329, rfl⟩
abbrev main_v171 : Ref sig .tc := ⟨.hbm, 330, rfl⟩
abbrev main_v172 : Ref sig .tc := ⟨.hbm, 331, rfl⟩
abbrev main_v173 : Ref sig .tc := ⟨.hbm, 332, rfl⟩
abbrev main_v174 : Ref sig .tc := ⟨.hbm, 333, rfl⟩
abbrev main_v175 : Ref sig .tc := ⟨.hbm, 334, rfl⟩
abbrev main_v176 : Ref sig .tc := ⟨.hbm, 335, rfl⟩
abbrev main_v177 : Ref sig .tc := ⟨.hbm, 336, rfl⟩
abbrev main_v178 : Ref sig .tc := ⟨.hbm, 337, rfl⟩
abbrev main_v179 : Ref sig .tc := ⟨.hbm, 338, rfl⟩

abbrev nD : Nat := 1
abbrev τ : Topo := Topo.v7x

variable {F : FTy → Type} [FloatOps F]
-- ==== Proof.Spec.lean ====
/- The mathematics both programs compute, over plain indices: the attention of one 8 by 8 patch, the pooled frequency
   context, and their sum. No program is named here. -/
module

public import Idealize.ShloMosaic.Lib.Pointwise

@[expose] public section

noncomputable section

namespace Cert.Spec

open Idealize.ShloMosaic

/-- The largest of finitely many extended reals. -/
def top {n : ℕ} (s : Fin n → EReal) : EReal := Finset.univ.fold max ⊥ s

/-- The softmax weight of entry `j` of a row, the row's maximum subtracted first. -/
def soft {n : ℕ} (s : Fin n → EReal) (j : Fin n) : EReal :=
  Ideal.div (Ideal.exp (s j - top s)) (∑ i, Ideal.exp (s i - top s))

/-- A patch's tokens times a weight matrix. -/
def proj (T : Fin 64 → Fin 192 → EReal) (w : Fin 192 → Fin 144 → EReal) (i : Fin 64) (d : Fin 144) : EReal :=
  ∑ c, T i c * w c d

/-- The score of token `j` for token `i`: the inner product of query and key. -/
def score (T : Fin 64 → Fin 192 → EReal) (wq wk : Fin 192 → Fin 144 → EReal) (i j : Fin 64) : EReal :=
  ∑ d, proj T wq i d * proj T wk j d

/-- One head's attention over a patch of 64 tokens. -/
def attn (T : Fin 64 → Fin 192 → EReal) (wq wk wv : Fin 192 → Fin 144 → EReal) (i : Fin 64) (d : Fin 144) : EReal :=
  ∑ j, soft (score T wq wk i) j * proj T wv j d

/-- Frequency features: the channels of the pooled image mixed by the (transposed) weights, one row of cells per channel. -/
def feat (Wf : Fin 192 → Fin 192 → EReal) (p : Fin 192 → Fin 21 → EReal) (o : Fin 192) (t : Fin 21) : EReal := ∑ c, Wf c o * p c t

/-- The context matrix: each channel's features against each channel's softmax of its own features. -/
def ctx (f : Fin 192 → Fin 21 → EReal) (b a : Fin 192) : EReal := ∑ t, f b t * soft (f a) t

/-- A pixel's query: its channels mixed by the (transposed) weights, plus the bias. -/
def quer (W : Fin 192 → Fin 192 → EReal) (bias x : Fin 192 → EReal) (c : Fin 192) : EReal := (∑ d, W d c * x d) + bias c

/-- A pixel's modulation: the context against the softmax of its query over the channels. -/
def modul (C : Fin 192 → Fin 192 → EReal) (q : Fin 192 → EReal) (a : Fin 192) : EReal := ∑ b, C b a * soft q b

/-- Channel `c` of an image, its 224 rows of 224 pixels one after another. -/
def img (x : (⟨4, ![1, 192, 224, 224]⟩ : Shape).Idx → EReal) (c : Fin 192) (n : Fin 50176) : EReal :=
  x (ix4 0 c ⟨n.1 / 224, by omega⟩ ⟨n.1 % 224, by omega⟩)

/-- The attention branch of an image at channel `c` and pixel `n`: in the 8 by 8 patch of the pixel, over the four heads, the attention
    contracted with the output weights. -/
def attnOut (x : Fin 192 → Fin 50176 → EReal) (wq wk wv : Fin 192 → Fin 576 → EReal) (wo : Fin 576 → Fin 192 → EReal) (c : Fin 192) (n : Fin 50176) : EReal :=
  ∑ h : Fin 4, ∑ d : Fin 144, attn (fun i c => x c ⟨n.1 / 1792 * 1792 + i.1 / 8 * 224 + n.1 / 8 % 28 * 8 + i.1 % 8, by omega⟩)
    (fun c d => wq c ⟨h.1 * 144 + d.1, by omega⟩) (fun c d => wk c ⟨h.1 * 144 + d.1, by omega⟩) (fun c d => wv c ⟨h.1 * 144 + d.1, by omega⟩)
    ⟨n.1 % 1792 / 224 * 8 + n.1 % 8, by omega⟩ d * wo ⟨h.1 * 144 + d.1, by omega⟩ c

end Cert.Spec

end
-- ==== Proof.Head.lean ====
/- One strip of the attention kernel, read at an index. -/
module

public import proofs.«01_k».proof.Proof.Spec
public import proofs.«01_k».proof.Proof.Gen.KernelIdeal.Frame

@[expose] public section

set_option maxRecDepth 16384

noncomputable section

namespace Cert.KernelIdeal.Strip

open Idealize.ShloMosaic Cert.KernelIdeal Cert.KernelIdeal.Gen Cert.Spec

/-- One head's attention over the 28 patches of a strip, times the head's rows of the output weights: the body's own operations. -/
def head (t : FVec Ideal S1792x192 .f32) (wq wk wv : Vec Ideal S1x192x144 .f32) (wo : Vec Ideal S1x144x192 .f32) : FVec Ideal S1792x192 .f32 :=
  let qw : FVec Ideal S192x144 .f32 := shapeCast S192x144 wq shapeCasts_S1x192x144_S192x144
  let qp : FVec Ideal S1792x144 .f32 := matmul dot_S1792x192_S192x144_S1792x144_1_0_0_1_n_n none t qw (constant S1792x144 .f32 0x00000000#32)
  let q : FVec Ideal S28x64x144 .f32 := shapeCast S28x64x144 qp shapeCasts_S1792x144_S28x64x144
  let kw : FVec Ideal S192x144 .f32 := shapeCast S192x144 wk shapeCasts_S1x192x144_S192x144
  let kp : FVec Ideal S1792x144 .f32 := matmul dot_S1792x192_S192x144_S1792x144_1_0_0_1_n_n none t kw (constant S1792x144 .f32 0x00000000#32)
  let k : FVec Ideal S28x64x144 .f32 := shapeCast S28x64x144 kp shapeCasts_S1792x144_S28x64x144
  let vw : FVec Ideal S192x144 .f32 := shapeCast S192x144 wv shapeCasts_S1x192x144_S192x144
  let vp : FVec Ideal S1792x144 .f32 := matmul dot_S1792x192_S192x144_S1792x144_1_0_0_1_n_n none t vw (constant S1792x144 .f32 0x00000000#32)
  let v : FVec Ideal S28x64x144 .f32 := shapeCast S28x64x144 vp shapeCasts_S1792x144_S28x64x144
  let s : FVec Ideal S28x64x64 .f32 := matmul dot_S28x64x144_S28x64x144_S28x64x64_2_2_1_1_0_0 none q k (constant S28x64x64 .f32 0x00000000#32)
  let e : FVec Ideal S28x64x64 .f32 := exp (subf s (broadcastTo S28x64x64 (shapeCast S28x64x1 (multiReduction .maximumf [2] S28x64 s 0xFF800000#32 reduces_S28x64x64_S28x64 (.inl rfl) rfl) shapeCasts_S28x64_S28x64x1) broadcasts_S28x64x1_S28x64x64))
  let z : FVec Ideal S28x64x64 .f32 := broadcastTo S28x64x64 (shapeCast S28x64x1 (multiReduction .add [2] S28x64 e 0x00000000#32 reduces_S28x64x64_S28x64 (.inl rfl) rfl) shapeCasts_S28x64_S28x64x1) broadcasts_S28x64x1_S28x64x64
  let o : FVec Ideal S28x64x144 .f32 := matmul dot_S28x64x64_S28x64x144_S28x64x144_2_1_1_2_0_0 none (divf e z) v (constant S28x64x144 .f32 0x00000000#32)
  let or : FVec Ideal S1792x144 .f32 := shapeCast S1792x144 o shapeCasts_S28x64x144_S1792x144
  let ow : FVec Ideal S144x192 .f32 := shapeCast S144x192 wo shapeCasts_S1x144x192_S144x192
  matmul dot_S1792x144_S144x192_S1792x192_1_0_0_1_n_n none or ow (constant S1792x192 .f32 0x00000000#32)

theorem ofBits_bot : Ideal.ofBits .f32 0xFF800000#32 = ⊥ := by simp [Ideal.ofBits, Ideal.ieee]

/-- A head at row `r` of the strip, channel `c`: the attention of the row's patch, contracted with the output weights. -/
theorem head_apply (t : FVec Ideal S1792x192 .f32) (wq wk wv : Vec Ideal S1x192x144 .f32) (wo : Vec Ideal S1x144x192 .f32) (r : Fin 1792) (c : Fin 192) :
    head t wq wk wv wo (ix2 r c) = ∑ d : Fin 144, attn (fun i c => t (ix2 ⟨r.1 / 64 * 64 + i.1, by omega⟩ c))
      (fun c d => wq (ix3 0 c d)) (fun c d => wk (ix3 0 c d)) (fun c d => wv (ix3 0 c d)) ⟨r.1 % 64, by omega⟩ d * wo (ix3 0 d c) := by
  unfold attn score proj soft top
  have hr : ∀ h, (⟨r.1 / 64 * 64 + r.1 % 64, h⟩ : Fin 1792) = r := fun _ => Fin.ext (Nat.div_add_mod' _ _)
  pointwise [head]
  simp only [hr, ofBits_bot]

/-- The strip's tokens by patch: the transposition as a product with the identity, then the reordering by patch. -/
def rows (xb : FVec Ideal S192x1792 .f32) (eye : FVec Ideal S192x192 .f32) : FVec Ideal S1792x192 .f32 :=
  shapeCast S1792x192 (transpose S28x8x8x192 [1, 0, 2, 3] (shapeCast S8x28x8x192 (matmul dot_S192x1792_S192x192_S1792x192_0_0_1_1_n_n none (shapeCast S192x1792 xb shapeCasts_S192x1792_S192x1792) (shapeCast S192x192 eye shapeCasts_S192x192_S192x192) (constant S1792x192 .f32 0x00000000#32)) shapeCasts_S1792x192_S8x28x8x192) transposes_S8x28x8x192_p1_0_2_3_S28x8x8x192) shapeCasts_S28x8x8x192_S1792x192

theorem sum_ite_eq' {n : ℕ} (c : Fin n) (f : Fin n → EReal) : ∑ x, f x * (if x = c then 1 else 0) = f c := by simp
theorem sum_ite_eq {n : ℕ} (c : Fin n) (f : Fin n → EReal) : ∑ x, (if c = x then 1 else 0) * f x = f c := by simp

theorem rows_apply (xb : FVec Ideal S192x1792 .f32) (eye : FVec Ideal S192x192 .f32) (he : ∀ a b, eye (ix2 a b) = if a = b then 1 else 0)
    (r : Fin 1792) (c : Fin 192) : rows xb eye (ix2 r c) = xb (ix2 c ⟨r.1 / 8 % 8 * 224 + r.1 / 64 * 8 + r.1 % 8, by omega⟩) := by
  pointwise [rows]
  simp only [he, sum_ite_eq']

/-- Back from the order by patch to the order by pixel, and transposed by a product with the identity. -/
def back (a : FVec Ideal S1792x192 .f32) (eye : FVec Ideal S192x192 .f32) : FVec Ideal S192x1792 .bf16 :=
  truncf .bf16 (matmul dot_S192x192_S1792x192_S192x1792_1_1_0_0_n_n none (shapeCast S192x192 eye shapeCasts_S192x192_S192x192) (shapeCast S1792x192 (transpose S8x28x8x192 [1, 0, 2, 3] (shapeCast S28x8x8x192 a shapeCasts_S1792x192_S28x8x8x192) transposes_S28x8x8x192_p1_0_2_3_S8x28x8x192) shapeCasts_S8x28x8x192_S1792x192) (constant S192x1792 .f32 0x00000000#32)) bitsLt_bf16_f32

theorem back_apply (a : FVec Ideal S1792x192 .f32) (eye : FVec Ideal S192x192 .f32) (he : ∀ a b, eye (ix2 a b) = if a = b then 1 else 0)
    (c : Fin 192) (l : Fin 1792) : back a eye (ix2 c l) = a (ix2 ⟨l.1 / 8 % 28 * 64 + l.1 / 224 * 8 + l.1 % 8, by omega⟩ c) := by
  pointwise [back]
  simp only [he, sum_ite_eq]

/-- A strip: the four heads summed. -/
def strip (xb : FVec Ideal S192x1792 .f32) (eye : FVec Ideal S192x192 .f32) (x2 x3 x4 : Vec Ideal S4x192x144 .f32) (x5 : Vec Ideal S4x144x192 .f32) : FVec Ideal S192x1792 .bf16 :=
  let t := rows xb eye
  back (addf (addf (addf (addf (broadcast S1792x192 (Scalar.ofBits .f32 0x00000000#32))
    (head t (View.ld x2 r0_2) (View.ld x3 r0_2) (View.ld x4 r0_2) (View.ld x5 r0_3)))
    (head t (View.ld x2 r0_4) (View.ld x3 r0_4) (View.ld x4 r0_4) (View.ld x5 r0_5)))
    (head t (View.ld x2 r0_6) (View.ld x3 r0_6) (View.ld x4 r0_6) (View.ld x5 r0_7)))
    (head t (View.ld x2 r0_8) (View.ld x3 r0_8) (View.ld x4 r0_8) (View.ld x5 r0_9))) eye

theorem out7_eq (x0 : Vec Ideal S192x3584 .f32) (x1 : Vec Ideal S192x192 .f32) (x2 x3 x4 : Vec Ideal S4x192x144 .f32) (x5 : Vec Ideal S4x144x192 .f32) (x6 : Vec Ideal S1792x28 .f32) :
    out0_7 x0 x1 x2 x3 x4 x5 x6 = View.canon [⟨r0_12, strip (View.ld x0 r0_12) (View.ld x1 r0_1) x2 x3 x4 x5⟩, ⟨r0_0, strip (View.ld x0 r0_0) (View.ld x1 r0_1) x2 x3 x4 x5⟩] := by
  unfold_out out0_7
  unfold_payloads
  rfl

/-- The tokens of the patch that pixel `l` of a strip lies in. -/
def strip_tok (xb : FVec Ideal S192x1792 .f32) (l : Fin 1792) (i : Fin 64) (c : Fin 192) : EReal :=
  xb (ix2 c ⟨i.1 / 8 * 224 + l.1 / 8 % 28 * 8 + i.1 % 8, by omega⟩)

theorem head_rows_apply (xb : FVec Ideal S192x1792 .f32) (eye : FVec Ideal S192x192 .f32) (he : ∀ a b, eye (ix2 a b) = if a = b then 1 else 0)
    (wq wk wv : Vec Ideal S1x192x144 .f32) (wo : Vec Ideal S1x144x192 .f32) (l : Fin 1792) (c : Fin 192) :
    head (rows xb eye) wq wk wv wo (ix2 ⟨l.1 / 8 % 28 * 64 + l.1 / 224 * 8 + l.1 % 8, by omega⟩ c) =
      ∑ d : Fin 144, attn (strip_tok xb l) (fun c d => wq (ix3 0 c d)) (fun c d => wk (ix3 0 c d)) (fun c d => wv (ix3 0 c d))
        ⟨l.1 / 224 * 8 + l.1 % 8, by omega⟩ d * wo (ix3 0 d c) := by
  rw [head_apply]
  have h1 : (⟨(l.1 / 8 % 28 * 64 + l.1 / 224 * 8 + l.1 % 8) % 64, by omega⟩ : Fin 64) = ⟨l.1 / 224 * 8 + l.1 % 8, by omega⟩ := by
    apply Fin.ext; simp only; omega
  have h2 : (fun (i : Fin 64) (c : Fin 192) => rows xb eye (ix2 ⟨(l.1 / 8 % 28 * 64 + l.1 / 224 * 8 + l.1 % 8) / 64 * 64 + i.1, by omega⟩ c)) = strip_tok xb l := by
    funext i c
    rw [rows_apply xb eye he, strip_tok]
    congr 2
    apply Fin.ext; simp only; omega
  simp only [h1, h2]

/-- A strip at channel `c` and pixel `l`: over the heads, the attention of the pixel's patch contracted with the output weights. -/
theorem strip_apply (xb : FVec Ideal S192x1792 .f32) (eye : FVec Ideal S192x192 .f32) (he : ∀ a b, eye (ix2 a b) = if a = b then 1 else 0)
    (x2 x3 x4 : Vec Ideal S4x192x144 .f32) (x5 : Vec Ideal S4x144x192 .f32) (c : Fin 192) (l : Fin 1792) :
    strip xb eye x2 x3 x4 x5 (ix2 c l) = ∑ h : Fin 4, ∑ d : Fin 144, attn (strip_tok xb l) (fun c d => x2 (ix3 h c d))
      (fun c d => x3 (ix3 h c d)) (fun c d => x4 (ix3 h c d)) ⟨l.1 / 224 * 8 + l.1 % 8, by omega⟩ d * x5 (ix3 h d c) := by
  rw [Fin.sum_univ_four, strip, back_apply _ _ he]
  pointwise
  simp only [head_rows_apply xb eye he]
  pointwise

end Cert.KernelIdeal.Strip

end
-- ==== Proof.Region0.lean ====
/- What the attention call leaves in its two output arrays, as functions of the arrays it finds. -/
module

public import proofs.«01_k».proof.Proof.Head
public import Idealize.ShloMosaic.Lib.Pipeline.ValueKit

@[expose] public section

set_option maxRecDepth 16384

noncomputable section

namespace Cert.KernelIdeal.Strip

open Idealize.ShloMosaic Idealize.ShloMosaic.TcCoe Cert.KernelIdeal Cert.KernelIdeal.Gen Cert.Spec

/-- The attention branch at channel `c` and pixel `n`, of an image (channels by pixels) of `28 · 64 · k` pixels and the weights by head. -/
def attnPix {k : ℕ} (X : Fin 192 → Fin (1792 * k) → EReal) (x2 x3 x4 : Vec Ideal S4x192x144 .f32) (x5 : Vec Ideal S4x144x192 .f32)
    (c : Fin 192) (n : Fin (1792 * k)) : EReal :=
  ∑ h : Fin 4, ∑ d : Fin 144, attn (fun i c => X c ⟨n.1 / 1792 * 1792 + i.1 / 8 * 224 + n.1 / 8 % 28 * 8 + i.1 % 8, by omega⟩)
    (fun c d => x2 (ix3 h c d)) (fun c d => x3 (ix3 h c d)) (fun c d => x4 (ix3 h c d)) ⟨n.1 % 1792 / 224 * 8 + n.1 % 8, by omega⟩ d * x5 (ix3 h d c)

/-- Two pieces that tile the block and are each the restriction of one function: the block is that function. -/
theorem canon7 (p0 p1 : Vec Ideal S192x1792 .bf16) (G : Fin 192 → Fin 3584 → EReal) (h0 : ∀ c l, p0 (ix2 c l) = G c ⟨1792 + l.1, by omega⟩)
    (h1 : ∀ c l, p1 (ix2 c l) = G c ⟨l.1, by omega⟩) (y : S192x3584.Idx) :
    (View.canon [⟨r0_12, p0⟩, ⟨r0_0, p1⟩] : Vec Ideal S192x3584 .bf16) y = G (y 0) (y 1) := by
  refine View.canon_apply_of_pieces (Val := Elt Ideal) (e := .bf16) (fun y => G (y 0) (y 1)) _ ?_ y (cover0_7 p0 p1 y)
  intro p hp x
  simp only [List.mem_cons, List.not_mem_nil, or_false] at hp
  rcases hp with rfl | rfl
  · have hx : x = ix2 (x 0) (x 1) := by funext a; fin_cases a <;> rfl
    refine (congrArg p0 hx).trans ((h0 _ _).trans ?_)
    refine congrArg₂ G (Fin.ext ?_) (Fin.ext ?_)
    · show (x 0).1 = 0 + 1 * (x 0).1; omega
    · show 1792 + (x 1).1 = 1792 + 1 * (x 1).1; omega
  · have hx : x = ix2 (x 0) (x 1) := by funext a; fin_cases a <;> rfl
    refine (congrArg p1 hx).trans ((h1 _ _).trans ?_)
    refine congrArg₂ G (Fin.ext ?_) (Fin.ext ?_)
    · show (x 0).1 = 0 + 1 * (x 0).1; omega
    · show (x 1).1 = 0 + 1 * (x 1).1; omega

/-- The block of two strips that the body leaves, at an index. -/
theorem out7_apply (x0 : Vec Ideal S192x3584 .f32) (x1 : Vec Ideal S192x192 .f32) (he : ∀ a b, x1 (ix2 a b) = if a = b then 1 else 0)
    (x2 x3 x4 : Vec Ideal S4x192x144 .f32) (x5 : Vec Ideal S4x144x192 .f32) (x6 : Vec Ideal S1792x28 .f32) (y : S192x3584.Idx) :
    out0_7 x0 x1 x2 x3 x4 x5 x6 y = attnPix (k := 2) (fun c n => x0 (ix2 c n)) x2 x3 x4 x5 (y 0) (y 1) := by
  have he' : ∀ a b, View.ld x1 r0_1 (ix2 a b) = if a = b then 1 else 0 := by
    intro a b; pointwise; exact he a b
  rw [out7_eq]
  refine canon7 _ _ (attnPix (k := 2) (fun c n => x0 (ix2 c n)) x2 x3 x4 x5) (fun c l => ?_) (fun c l => ?_) y
  · rw [strip_apply _ _ he']
    unfold attnPix strip_tok
    have h1 : (⟨l.1 / 224 * 8 + l.1 % 8, by omega⟩ : Fin 64) = ⟨(1792 + l.1) % 1792 / 224 * 8 + (1792 + l.1) % 8, by omega⟩ := Fin.ext (by simp only; omega)
    have h2 : (fun (i : Fin 64) (c : Fin 192) => View.ld x0 r0_12 (ix2 c ⟨i.1 / 8 * 224 + l.1 / 8 % 28 * 8 + i.1 % 8, by omega⟩)) =
        fun i c => x0 (ix2 c ⟨(1792 + l.1) / 1792 * 1792 + i.1 / 8 * 224 + (1792 + l.1) / 8 % 28 * 8 + i.1 % 8, by omega⟩) := by
      funext i c
      pointwise
      congr 2; apply Fin.ext; simp only; omega
    simp only [h1, h2]
  · rw [strip_apply _ _ he']
    unfold attnPix strip_tok
    have h1 : (⟨l.1 / 224 * 8 + l.1 % 8, by omega⟩ : Fin 64) = ⟨l.1 % 1792 / 224 * 8 + l.1 % 8, by omega⟩ := Fin.ext (by simp only; omega)
    have h2 : (fun (i : Fin 64) (c : Fin 192) => View.ld x0 r0_0 (ix2 c ⟨i.1 / 8 * 224 + l.1 / 8 % 28 * 8 + i.1 % 8, by omega⟩)) =
        fun i c => x0 (ix2 c ⟨l.1 / 1792 * 1792 + i.1 / 8 * 224 + l.1 / 8 % 28 * 8 + i.1 % 8, by omega⟩) := by
      funext i c
      pointwise
      congr 2; apply Fin.ext; simp only; omega
    simp only [h1, h2]

/-- Two pieces that tile the block of sums and are each the restriction of one function: the block is that function. -/
theorem canon8 (p0 p1 : Vec Ideal S192x1x1x28 .f32) (G : Fin 192 → Fin 2 → Fin 28 → EReal) (h0 : ∀ c j, p0 (ix4 c 0 0 j) = G c 1 j)
    (h1 : ∀ c j, p1 (ix4 c 0 0 j) = G c 0 j) (y : S192x1x2x28.Idx) :
    (View.canon [⟨r0_13, p0⟩, ⟨r0_11, p1⟩] : Vec Ideal S192x1x2x28 .f32) y = G (y 0) (y 2) (y 3) := by
  refine View.canon_apply_of_pieces (Val := Elt Ideal) (e := .f32) (fun y => G (y 0) (y 2) (y 3)) _ ?_ y (cover0_8 p0 p1 y)
  intro p hp x
  simp only [List.mem_cons, List.not_mem_nil, or_false] at hp
  have e1 : ∀ z : Fin 1, z = 0 := fun z => Subsingleton.elim _ _
  rcases hp with rfl | rfl
  · have hx : x = ix4 (x 0) 0 0 (x 3) := by
      funext a; fin_cases a
      · rfl
      · exact e1 _
      · exact e1 _
      · rfl
    have h2 : (x 2).1 = 0 := congrArg Fin.val (e1 (x 2))
    refine (congrArg p0 hx).trans ((h0 _ _).trans ?_)
    have k0 : x 0 = (r0_13.emb x) 0 := Fin.ext (by show (x 0).1 = 0 + 1 * (x 0).1; omega)
    have k2 : (1 : Fin 2) = (r0_13.emb x) 2 := Fin.ext (by show 1 = 1 + 1 * (x 2).1; omega)
    have k3 : x 3 = (r0_13.emb x) 3 := Fin.ext (by show (x 3).1 = 0 + 1 * (x 3).1; omega)
    show G (x 0) 1 (x 3) = G ((r0_13.emb x) 0) ((r0_13.emb x) 2) ((r0_13.emb x) 3)
    rw [← k0, ← k2, ← k3]
  · have hx : x = ix4 (x 0) 0 0 (x 3) := by
      funext a; fin_cases a
      · rfl
      · exact e1 _
      · exact e1 _
      · rfl
    have h2 : (x 2).1 = 0 := congrArg Fin.val (e1 (x 2))
    refine (congrArg p1 hx).trans ((h1 _ _).trans ?_)
    have k0 : x 0 = (r0_11.emb x) 0 := Fin.ext (by show (x 0).1 = 0 + 1 * (x 0).1; omega)
    have k2 : (0 : Fin 2) = (r0_11.emb x) 2 := Fin.ext (by show 0 = 0 + 1 * (x 2).1; omega)
    have k3 : x 3 = (r0_11.emb x) 3 := Fin.ext (by show (x 3).1 = 0 + 1 * (x 3).1; omega)
    show G (x 0) 0 (x 3) = G ((r0_11.emb x) 0) ((r0_11.emb x) 2) ((r0_11.emb x) 3)
    rw [← k0, ← k2, ← k3]

/-- The block of strip sums that the body leaves, at an index: each strip's pixels against the table. -/
theorem out8_apply (x0 : Vec Ideal S192x3584 .f32) (x1 : Vec Ideal S192x192 .f32)
    (x2 x3 x4 : Vec Ideal S4x192x144 .f32) (x5 : Vec Ideal S4x144x192 .f32) (x6 : Vec Ideal S1792x28 .f32) (y : S192x1x2x28.Idx) :
    out0_8 x0 x1 x2 x3 x4 x5 x6 y = ∑ l : Fin 1792, x0 (ix2 (y 0) ⟨(y 2).1 * 1792 + l.1, by have : (y 2).1 < 2 := (y 2).2; omega⟩) * x6 (ix2 l (y 3)) := by
  unfold_out out0_8
  unfold_payloads
  refine canon8 _ _ (fun c s j => ∑ l : Fin 1792, x0 (ix2 c ⟨s.1 * 1792 + l.1, by omega⟩) * x6 (ix2 l j)) (fun c j => ?_) (fun c j => ?_) y
  · pointwise
  · pointwise

variable (V : (c : Dev nD) → (b : Ref sig .tc) → Buf (Elt Ideal) ((c : Thread nD τ).loc b)) (c : Dev nD)

theorem idx0_0 : ∀ t : Fin cfg0.N, win0_0.index t = ![0, t.1] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0, 0] := (by decide +kernel : ∀ t : Fin grid0.N, _)
theorem idx0_3 : ∀ t : Fin cfg0.N, win0_3.index t = ![0, 0, 0] := (by decide +kernel : ∀ t : Fin grid0.N, _)
theorem idx0_4 : ∀ t : Fin cfg0.N, win0_4.index t = ![0, 0, 0] := (by decide +kernel : ∀ t : Fin grid0.N, _)
theorem idx0_5 : ∀ t : Fin cfg0.N, win0_5.index t = ![0, 0, 0] := (by decide +kernel : ∀ t : Fin grid0.N, _)
theorem idx0_6 : ∀ t : Fin cfg0.N, win0_6.index t = ![0, 0] := (by decide +kernel : ∀ t : Fin grid0.N, _)
theorem idx0_7 : ∀ t : Fin cfg0.N, win0_7.index t = ![0, t.1] := (by decide +kernel : ∀ t : Fin grid0.N, _)
theorem idx0_8 : ∀ t : Fin cfg0.N, win0_8.index t = ![0, t.1, 0, 0] := (by decide +kernel : ∀ t : Fin grid0.N, _)

/-- The attention branch of one block of two strips is the attention branch of the image that the block lies in. -/
theorem attnPix_block (X : Fin 192 → Fin 50176 → EReal) (x2 x3 x4 : Vec Ideal S4x192x144 .f32) (x5 : Vec Ideal S4x144x192 .f32) (t : Fin 14)
    (c : Fin 192) (n : Fin 3584) (c' : Fin 192) (n' : Fin 50176) (hc : c'.1 = c.1) (hn : n'.1 = t.1 * 3584 + n.1) :
    attnPix (k := 2) (fun c n => X c ⟨t.1 * 3584 + n.1, by omega⟩) x2 x3 x4 x5 c n = attnPix (k := 28) X x2 x3 x4 x5 c' n' := by
  obtain rfl : c' = c := Fin.ext hc
  unfold attnPix
  have h1 : (⟨n.1 % 1792 / 224 * 8 + n.1 % 8, by omega⟩ : Fin 64) = ⟨n'.1 % 1792 / 224 * 8 + n'.1 % 8, by omega⟩ := Fin.ext (by simp only; omega)
  have h2 : (fun (i : Fin 64) (c : Fin 192) => X c ⟨t.1 * 3584 + (n.1 / 1792 * 1792 + i.1 / 8 * 224 + n.1 / 8 % 28 * 8 + i.1 % 8), by omega⟩) =
      fun i c => X c ⟨n'.1 / 1792 * 1792 + i.1 / 8 * 224 + n'.1 / 8 % 28 * 8 + i.1 % 8, by omega⟩ := by
    funext i c
    congr 1; apply Fin.ext; simp only; omega
  simp only [h1, h2]

/-- The attention array after the call. -/
theorem arr7 (X : Vec Ideal S192x50176 .f32) (E : Vec Ideal S192x192 .f32) (wq wk wv : Vec Ideal S4x192x144 .f32) (wo : Vec Ideal S4x144x192 .f32)
    (hX : V c main_v0 = X) (hE : V c main_v13 = E) (hq : V c main_v2 = wq) (hk : V c main_v4 = wk) (hv : V c main_v6 = wv) (ho : V c main_v7 = wo)
    (he : ∀ a b, E (ix2 a b) = if a = b then 1 else 0) :
    (dat0 V c).arrAt 7 cfg0.N = fun i : S192x50176.Idx => attnPix (k := 28) (fun c n => X (ix2 c n)) wq wk wv wo (i 0) (i 1) := by
  refine (dat0 V c).arrAt_eq_of_covers 7 _ (by decide +kernel) fun t hf y => ?_
  blk_simp
  rw [after0_7]
  have h0 : iblk0 V c 0 t = fun y : S192x3584.Idx => X (ix2 (y 0) ⟨t.1 * 3584 + (y 1).1, by have h1 : (y 1).1 < 3584 := (y 1).2; have h2 : t.1 < 14 := t.2; omega⟩) := by
    funext y; refine (congrFun hX _).trans (congrArg X ?_); blk_ext [idx0_0]
  have h1 : iblk0 V c 1 t = E := by funext y; refine (congrFun hE _).trans (congrArg E ?_); blk_ext [idx0_1]
  have h2 : iblk0 V c 2 t = wq := by funext y; refine (congrFun hq _).trans (congrArg wq ?_); blk_ext [idx0_2]
  have h3 : iblk0 V c 3 t = wk := by funext y; refine (congrFun hk _).trans (congrArg wk ?_); blk_ext [idx0_3]
  have h4 : iblk0 V c 4 t = wv := by funext y; refine (congrFun hv _).trans (congrArg wv ?_); blk_ext [idx0_4]
  have h5 : iblk0 V c 5 t = wo := by funext y; refine (congrFun ho _).trans (congrArg wo ?_); blk_ext [idx0_5]
  rw [h0, h1, h2, h3, h4, h5]
  refine (out7_apply _ E he wq wk wv wo _ y).trans ?_
  refine attnPix_block (fun c n => X (ix2 c n)) wq wk wv wo t _ _ _ _ ?_ ?_
  · show (((win0_7.blk t).view.emb y 0 : Fin 192) : ℕ) = _
    blk_simp [idx0_7]
  · blk_simp [idx0_7]

/-- The array of strip sums after the call. -/
theorem arr8 (X : Vec Ideal S192x50176 .f32) (T : Vec Ideal S1792x28 .f32) (hX : V c main_v0 = X) (hT : V c main_cst = T) :
    (dat0 V c).arrAt 8 cfg0.N = fun i : S192x14x2x28.Idx => ∑ l : Fin 1792, X (ix2 (i 0) ⟨(i 1).1 * 3584 + ((i 2).1 * 1792 + l.1), by
      have h1 : (i 1).1 < 14 := (i 1).2; have h2 : (i 2).1 < 2 := (i 2).2; omega⟩) * T (ix2 l (i 3)) := by
  refine (dat0 V c).arrAt_eq_of_covers 8 _ (by decide +kernel) fun t hf y => ?_
  blk_simp
  rw [after0_8]
  have h0 : iblk0 V c 0 t = fun y : S192x3584.Idx => X (ix2 (y 0) ⟨t.1 * 3584 + (y 1).1, by have h1 : (y 1).1 < 3584 := (y 1).2; have h2 : t.1 < 14 := t.2; omega⟩) := by
    funext y; refine (congrFun hX _).trans (congrArg X ?_); blk_ext [idx0_0]
  have h6 : iblk0 V c 6 t = T := by funext y; refine (congrFun hT _).trans (congrArg T ?_); blk_ext [idx0_6]
  rw [h0, h6]
  refine (out8_apply _ _ _ _ _ _ T y).trans (Finset.sum_congr rfl fun l _ => ?_)
  refine congrArg₂ (· * ·) (congrArg X ?_) (congrArg T ?_)
  · blk_ext [idx0_8]
  · blk_ext [idx0_8]

end Cert.KernelIdeal.Strip

end
-- ==== Proof.Region12.lean ====
/- What the pooling call and the modulation call leave in their output arrays, as functions of the arrays they find. -/
module

public import proofs.«01_k».proof.Proof.Region0

@[expose] public section

set_option maxRecDepth 16384

noncomputable section

namespace Cert.KernelIdeal.Strip

open Idealize.ShloMosaic Idealize.ShloMosaic.TcCoe Cert.KernelIdeal Cert.KernelIdeal.Gen Cert.Spec

theorem out1_apply (x0 : Vec Ideal S192x14x2x28 .f32) (x1 : Vec Ideal S784x21 .f32) (x2 : Vec Ideal S192x192 .f32) (b a : Fin 192) :
    out1_3 x0 x1 x2 (ix2 b a) = ctx (feat (fun c o => x2 (ix2 c o)) fun c t => ∑ p : Fin 784, x0 (ix4 c ⟨p.1 / 56, by omega⟩ ⟨p.1 / 28 % 2, by omega⟩ ⟨p.1 % 28, by omega⟩) * x1 (ix2 p t)) b a := by
  unfold ctx feat soft top
  frame_out
  unfold_payloads
  pointwise
  simp only [ofBits_bot]

theorem out2_apply (x0 : Vec Ideal S192x7168 .f32) (x1 : Vec Ideal S192x7168 .bf16) (x2 x3 : Vec Ideal S192x192 .f32) (x4 : Vec Ideal S192x1 .f32) (x5 : Vec Ideal S192x2 .f32) (a : Fin 192) (n : Fin 7168) :
    out2_6 x0 x1 x2 x3 x4 x5 (ix2 a n) = x1 (ix2 a n) * x5 (ix2 a 0) +
      modul (fun b a => x2 (ix2 b a)) (quer (fun d c => x3 (ix2 d c)) (fun c => x4 (ix2 c 0)) fun d => x0 (ix2 d n)) a * x5 (ix2 a 1) := by
  unfold modul quer soft top
  frame_out
  unfold_payloads
  pointwise
  simp only [ofBits_bot]

variable (V : (c : Dev nD) → (b : Ref sig .tc) → Buf (Elt Ideal) ((c : Thread nD τ).loc b)) (c : Dev nD)

theorem idx1_0 : ∀ t : Fin cfg1.N, win1_0.index t = ![0, 0, 0, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0, 0] := (by decide +kernel : ∀ t : Fin grid1.N, _)
theorem idx2_0 : ∀ t : Fin cfg2.N, win2_0.index t = ![0, t.1] := (by decide +kernel : ∀ t : Fin grid2.N, _)
theorem idx2_1 : ∀ t : Fin cfg2.N, win2_1.index t = ![0, t.1] := (by decide +kernel : ∀ t : Fin grid2.N, _)
theorem idx2_2 : ∀ t : Fin cfg2.N, win2_2.index t = ![0, 0] := (by decide +kernel : ∀ t : Fin grid2.N, _)
theorem idx2_3 : ∀ t : Fin cfg2.N, win2_3.index t = ![0, 0] := (by decide +kernel : ∀ t : Fin grid2.N, _)
theorem idx2_4 : ∀ t : Fin cfg2.N, win2_4.index t = ![0, 0] := (by decide +kernel : ∀ t : Fin grid2.N, _)
theorem idx2_5 : ∀ t : Fin cfg2.N, win2_5.index t = ![0, 0] := (by decide +kernel : ∀ t : Fin grid2.N, _)
theorem idx2_6 : ∀ t : Fin cfg2.N, win2_6.index t = ![0, t.1] := (by decide +kernel : ∀ t : Fin grid2.N, _)

/-- The context matrix after the pooling call. -/
theorem arr1_3 (S : Vec Ideal S192x14x2x28 .f32) (M : Vec Ideal S784x21 .f32) (Wf : Vec Ideal S192x192 .f32)
    (hS : V c main_v14_1 = S) (hM : V c main_v16 = M) (hW : V c main_arg7 = Wf) :
    (dat1 V c).arrAt 3 cfg1.N = out1_3 S M Wf := by
  refine (dat1 V c).arrAt_eq_of_covers 3 _ (by decide +kernel) fun t hf y => ?_
  blk_simp
  rw [after1_3]
  have h0 : iblk1 V c 0 t = S := by funext y; refine (congrFun hS _).trans (congrArg S ?_); blk_ext [idx1_0]
  have h1 : iblk1 V c 1 t = M := by funext y; refine (congrFun hM _).trans (congrArg M ?_); blk_ext [idx1_1]
  have h2 : iblk1 V c 2 t = Wf := by funext y; refine (congrFun hW _).trans (congrArg Wf ?_); blk_ext [idx1_2]
  rw [h0, h1, h2]
  refine congrArg (out1_3 S M Wf) ?_
  blk_ext [idx1_3]

/-- The output array after the modulation call. -/
theorem arr2_6 (X : Vec Ideal S192x50176 .f32) (P : Vec Ideal S192x50176 .bf16) (C W : Vec Ideal S192x192 .f32) (B : Vec Ideal S192x1 .f32) (D : Vec Ideal S192x2 .f32)
    (hX : V c main_v0 = X) (hP : V c main_v14_0 = P) (hC : V c main_v17 = C) (hW : V c main_arg5 = W) (hB : V c main_v18 = B) (hD : V c main_arg8 = D) :
    (dat2 V c).arrAt 6 cfg2.N = fun i : S192x50176.Idx => P i * D (ix2 (i 0) 0) +
      modul (fun b a => C (ix2 b a)) (quer (fun d c => W (ix2 d c)) (fun c => B (ix2 c 0)) fun d => X (ix2 d (i 1))) (i 0) * D (ix2 (i 0) 1) := by
  refine (dat2 V c).arrAt_eq_of_covers 6 _ (by decide +kernel) fun t hf y => ?_
  blk_simp
  rw [after2_6]
  have h0 : iblk2 V c 0 t = fun y : S192x7168.Idx => X (ix2 (y 0) ⟨t.1 * 7168 + (y 1).1, by have h1 : (y 1).1 < 7168 := (y 1).2; have h2 : t.1 < 7 := t.2; omega⟩) := by
    funext y; refine (congrFun hX _).trans (congrArg X ?_); blk_ext [idx2_0]
  have h1 : iblk2 V c 1 t = fun y : S192x7168.Idx => P (ix2 (y 0) ⟨t.1 * 7168 + (y 1).1, by have h1 : (y 1).1 < 7168 := (y 1).2; have h2 : t.1 < 7 := t.2; omega⟩) := by
    funext y; refine (congrFun hP _).trans (congrArg P ?_); blk_ext [idx2_1]
  have h2 : iblk2 V c 2 t = C := by funext y; refine (congrFun hC _).trans (congrArg C ?_); blk_ext [idx2_2]
  have h3 : iblk2 V c 3 t = W := by funext y; refine (congrFun hW _).trans (congrArg W ?_); blk_ext [idx2_3]
  have h4 : iblk2 V c 4 t = B := by funext y; refine (congrFun hB _).trans (congrArg B ?_); blk_ext [idx2_4]
  have h5 : iblk2 V c 5 t = D := by funext y; refine (congrFun hD _).trans (congrArg D ?_); blk_ext [idx2_5]
  rw [h0, h1, h2, h3, h4, h5]
  have hy : y = (ix2 (y 0) (y 1) : S192x7168.Idx) := by funext a; fin_cases a <;> rfl
  have he : (win2_6.blk t).view.emb y = (ix2 (y 0) ⟨t.1 * 7168 + (y 1).1, by have h1 : (y 1).1 < 7168 := (y 1).2; have h2 : t.1 < 7 := t.2; omega⟩ : S192x50176.Idx) := by blk_ext [idx2_6]
  rw [he]
  refine (congrArg _ hy).trans ((out2_apply _ _ C W B D _ _).trans ?_)
  rfl

end Cert.KernelIdeal.Strip

end
-- ==== Proof.KVal.lean ====
/- The kernel's result array in terms of the launched arguments. -/
module

public import proofs.«01_k».proof.Proof.Region12
public import Idealize.ShloMosaic.Lib.StableHlo.Run

@[expose] public section

set_option maxRecDepth 16384

noncomputable section

namespace Cert.KernelIdeal.Strip

open Idealize.ShloMosaic Idealize.ShloMosaic.TcCoe Cert.KernelIdeal Cert.KernelIdeal.Gen Cert.Spec

/-- The table that sums a strip's pixels by column of patches. -/
def tabS : Vec Ideal S1792x28 .f32 := fun i => Ideal.ofBits .f32 (lit0 (S1792x28.rowMajor i))
/-- The table of the patches in each pooling cell. -/
def tabP : Vec Ideal S784x21 .f32 := fun i => Ideal.ofBits .f32 (lit1 (S784x21.rowMajor i))
/-- The number of pixels in each pooling cell. -/
def tabN : Vec Ideal S1x21 .f32 := fun i => Ideal.ofBits .f32 (lit2 (S1x21.rowMajor i))

/-- The pooled image as the kernel computes it: sums by patch, then against the table of cells divided by the cells' sizes. -/
def pooledK (x : Fin 192 → Fin 50176 → EReal) (c : Fin 192) (t : Fin 21) : EReal :=
  ∑ p : Fin 784, (∑ l : Fin 1792, x c ⟨p.1 / 56 * 3584 + (p.1 / 28 % 2 * 1792 + l.1), by omega⟩ * tabS (ix2 l ⟨p.1 % 28, by omega⟩)) *
    Ideal.div (tabP (ix2 p t)) (tabN (ix2 0 t))

variable (m : (ℓ : Loc nD τ sig) → Buf (Elt Ideal) ℓ) (ρ : Dev nD → PrngReg) (c : Dev nD)

theorem W1_v0 (x : Vec Ideal S1x192x224x224 .f32) (hx : m ((c : Thread nD τ).loc main_arg0) = x) :
    W1 m ρ c (Proc.devRef .tc main_v0) = fun i : S192x50176.Idx => img x (i 0) (i 1) := by
  have h : W1 m ρ c (Proc.devRef .tc main_v0) = shapeCast S192x50176 x shapeCasts_S1x192x224x224_S192x50176 := by
    subst hx; unfold_abbrev_sides; after_results; rfl
  rw [h]; funext i; idx_vars i; pointwise [img]

theorem W1_v2 (w : Vec Ideal S192x576 .f32) (hw : m ((c : Thread nD τ).loc main_arg1) = w) :
    W1 m ρ c (Proc.devRef .tc main_v2) = fun i : S4x192x144.Idx => w (ix2 (i 1) ⟨(i 0).1 * 144 + (i 2).1, by have h1 : (i 0).1 < 4 := (i 0).2; have h2 : (i 2).1 < 144 := (i 2).2; omega⟩) := by
  have h : W1 m ρ c (Proc.devRef .tc main_v2) = transpose S4x192x144 [1, 0, 2] (shapeCast S192x4x144 w shapeCasts_S192x576_S192x4x144) transposes_S192x4x144_S4x192x144_1_0_2 := by
    subst hw; unfold_abbrev_sides; after_results; rfl
  rw [h]; funext i; idx_vars i; pointwise

theorem W1_v4 (w : Vec Ideal S192x576 .f32) (hw : m ((c : Thread nD τ).loc main_arg2) = w) :
    W1 m ρ c (Proc.devRef .tc main_v4) = fun i : S4x192x144.Idx => w (ix2 (i 1) ⟨(i 0).1 * 144 + (i 2).1, by have h1 : (i 0).1 < 4 := (i 0).2; have h2 : (i 2).1 < 144 := (i 2).2; omega⟩) := by
  have h : W1 m ρ c (Proc.devRef .tc main_v4) = transpose S4x192x144 [1, 0, 2] (shapeCast S192x4x144 w shapeCasts_S192x576_S192x4x144) transposes_S192x4x144_S4x192x144_1_0_2 := by
    subst hw; unfold_abbrev_sides; after_results; rfl
  rw [h]; funext i; idx_vars i; pointwise

theorem W1_v6 (w : Vec Ideal S192x576 .f32) (hw : m ((c : Thread nD τ).loc main_arg3) = w) :
    W1 m ρ c (Proc.devRef .tc main_v6) = fun i : S4x192x144.Idx => w (ix2 (i 1) ⟨(i 0).1 * 144 + (i 2).1, by have h1 : (i 0).1 < 4 := (i 0).2; have h2 : (i 2).1 < 144 := (i 2).2; omega⟩) := by
  have h : W1 m ρ c (Proc.devRef .tc main_v6) = transpose S4x192x144 [1, 0, 2] (shapeCast S192x4x144 w shapeCasts_S192x576_S192x4x144) transposes_S192x4x144_S4x192x144_1_0_2 := by
    subst hw; unfold_abbrev_sides; after_results; rfl
  rw [h]; funext i; idx_vars i; pointwise

theorem W1_v7 (w : Vec Ideal S576x192 .f32) (hw : m ((c : Thread nD τ).loc main_arg4) = w) :
    W1 m ρ c (Proc.devRef .tc main_v7) = fun i : S4x144x192.Idx => w (ix2 ⟨(i 0).1 * 144 + (i 1).1, by have h1 : (i 0).1 < 4 := (i 0).2; have h2 : (i 1).1 < 144 := (i 1).2; omega⟩ (i 2)) := by
  have h : W1 m ρ c (Proc.devRef .tc main_v7) = shapeCast S4x144x192 w shapeCasts_S576x192_S4x144x192 := by
    subst hw; unfold_abbrev_sides; after_results; rfl
  rw [h]; funext i; idx_vars i; pointwise

/-- The identity matrix the host makes. -/
def eyeK : Vec Ideal S192x192 .f32 :=
  uitofp (F := Ideal) .f32 (cmpi .eq (addi (iotaInDim S192x192 32 0) (broadcastInDim S192x192 ![] bcast_S_S192x192 (constantI S_ 32 0#32))) (iotaInDim S192x192 32 1))

theorem W1_v13 : W1 m ρ c (Proc.devRef .tc main_v13) = eyeK := by
  unfold_abbrev_sides; after_results; rfl

theorem eyeK_apply (a b : Fin 192) : eyeK (ix2 a b) = if a = b then 1 else 0 := by
  pointwise [eyeK]
  have h : IntOp.cmpi CmpIPredicate.eq (IntOp.addi (BitVec.ofNat 32 a.1) 0#32) (BitVec.ofNat 32 b.1) = if a = b then 1#1 else 0#1 := by
    have e : (BitVec.ofNat 32 a.1 = BitVec.ofNat 32 b.1) ↔ a = b := by
      constructor
      · intro h
        have h' := congrArg BitVec.toNat h
        simp only [BitVec.toNat_ofNat] at h'
        exact Fin.ext (by omega)
      · rintro rfl; rfl
    simp only [IntOp.cmpi, IntOp.addi, BitVec.add_zero]
    by_cases hab : a = b
    · simp [hab]
    · have hb : (BitVec.ofNat 32 a.1 == BitVec.ofNat 32 b.1) = false := beq_eq_false_iff_ne.2 fun h => hab (e.1 h)
      rw [hb]; simp [hab]
  rw [h]
  by_cases hab : a = b <;> simp [hab, FloatOps.uitofp]

theorem W1_cst : W1 m ρ c (Proc.devRef .tc main_cst) = tabS := by
  unfold_abbrev_sides; after_results; rfl
theorem W1_cst_0 : W1 m ρ c (Proc.devRef .tc main_cst_0) = tabP := by
  unfold_abbrev_sides; after_results; rfl
theorem W1_cst_1 : W1 m ρ c (Proc.devRef .tc main_cst_1) = tabN := by
  unfold_abbrev_sides; after_results; rfl

/-- The attention array after the first call. -/
theorem W2_spa (x : Vec Ideal S1x192x224x224 .f32) (wq wk wv : Vec Ideal S192x576 .f32) (wo : Vec Ideal S576x192 .f32)
    (hx : m ((c : Thread nD τ).loc main_arg0) = x) (hq : m ((c : Thread nD τ).loc main_arg1) = wq) (hk : m ((c : Thread nD τ).loc main_arg2) = wk)
    (hv : m ((c : Thread nD τ).loc main_arg3) = wv) (ho : m ((c : Thread nD τ).loc main_arg4) = wo) :
    W2 m ρ c (Proc.devRef .tc main_v14_0) = fun i : S192x50176.Idx => attnOut (img x) (fun c d => wq (ix2 c d)) (fun c d => wk (ix2 c d)) (fun c d => wv (ix2 c d)) (fun d c => wo (ix2 d c)) (i 0) (i 1) := by
  refine (W2_arr m ρ c 7).trans ((arr7 (V1 m ρ) c _ _ _ _ _ _ (W1_v0 m ρ c x hx) (W1_v13 m ρ c) (W1_v2 m ρ c wq hq) (W1_v4 m ρ c wk hk) (W1_v6 m ρ c wv hv) (W1_v7 m ρ c wo ho) eyeK_apply).trans ?_)
  rfl

/-- The strip sums after the first call. -/
theorem W2_sums (x : Vec Ideal S1x192x224x224 .f32) (hx : m ((c : Thread nD τ).loc main_arg0) = x) :
    W2 m ρ c (Proc.devRef .tc main_v14_1) = fun i : S192x14x2x28.Idx => ∑ l : Fin 1792, img x (i 0) ⟨(i 1).1 * 3584 + ((i 2).1 * 1792 + l.1), by
      have h1 : (i 1).1 < 14 := (i 1).2; have h2 : (i 2).1 < 2 := (i 2).2; omega⟩ * tabS (ix2 l (i 3)) :=
  (W2_arr m ρ c 8).trans (arr8 (V1 m ρ) c _ _ (W1_v0 m ρ c x hx) (W1_cst m ρ c))

/-- The table of cells divided by the cells' sizes. -/
theorem W3_v16 : W3 m ρ c (Proc.devRef .tc main_v16) = fun i : S784x21.Idx => Ideal.div (tabP i) (tabN (ix2 0 (i 1))) := by
  have h0 : W2 m ρ c (Proc.devRef .tc main_cst_0) = tabP := (W2_of_ne m ρ c main_cst_0 (by decide)).trans (W1_cst_0 m ρ c)
  have h1 : W2 m ρ c (Proc.devRef .tc main_cst_1) = tabN := (W2_of_ne m ρ c main_cst_1 (by decide)).trans (W1_cst_1 m ρ c)
  have h : W3 m ρ c (Proc.devRef .tc main_v16) = Host.divf (F := Ideal) (φ := .f32) tabP (broadcastInDim S784x21 ![0, 1] bcast_S1x21_S784x21_0_1 (tabN : FVec Ideal S1x21 .f32)) := by
    unfold_abbrev_sides; after_results; rw [h0, h1]
  rw [h]; funext i; idx_vars i; pointwise

/-- The context matrix after the second call. -/
theorem W4_ctx (x : Vec Ideal S1x192x224x224 .f32) (wf : Vec Ideal S192x192 .f32) (hx : m ((c : Thread nD τ).loc main_arg0) = x) (hf : m ((c : Thread nD τ).loc main_arg7) = wf) :
    W4 m ρ c (Proc.devRef .tc main_v17) = fun i : S192x192.Idx => ctx (feat (fun c o => wf (ix2 c o)) (pooledK (img x))) (i 0) (i 1) := by
  refine (W4_arr m ρ c 3).trans ((arr1_3 (V3 m ρ) c _ _ wf ((W3_of m ρ c main_v14_1 (by decide)).trans (W2_sums m ρ c x hx)) (W3_v16 m ρ c)
    ((W3_args m ρ c main_arg7 (by decide)).trans hf)).trans ?_)
  funext i; idx_vars i
  rw [out1_apply]
  rfl

theorem W5_v18 (bu : Vec Ideal S192 .f32) (hb : m ((c : Thread nD τ).loc main_arg6) = bu) :
    W5 m ρ c (Proc.devRef .tc main_v18) = fun i : S192x1.Idx => bu (ix1 (i 0)) := by
  have h6 := (W4_args m ρ c main_arg6 (by decide)).trans hb
  have h : W5 m ρ c (Proc.devRef .tc main_v18) = shapeCast S192x1 bu shapeCasts_S192_S192x1 := by
    subst h6; unfold_abbrev_sides; after_results; rfl
  rw [h]; funext i; idx_vars i; pointwise

theorem W7_v20 (O : Vec Ideal S192x50176 .f32) (hO : W6 m ρ c (Proc.devRef .tc main_v19) = O) :
    W7 m ρ c (Proc.devRef .tc main_v20) = fun i : S1x192x224x224.Idx =>
      O (ix2 (i 1) ⟨(i 2).1 * 224 + (i 3).1, by have h1 : (i 2).1 < 224 := (i 2).2; have h2 : (i 3).1 < 224 := (i 3).2; omega⟩) := by
  have h : W7 m ρ c (Proc.devRef .tc main_v20) = shapeCast S1x192x224x224 O shapeCasts_S192x50176_S1x192x224x224 := by
    subst hO; unfold_abbrev_sides; after_results; rfl
  rw [h]; funext i; idx_vars i; pointwise

/-- The kernel's result at channel `a`, row `r` and column `w`. -/
theorem W7_out (x : Vec Ideal S1x192x224x224 .f32) (wq wk wv : Vec Ideal S192x576 .f32) (wo : Vec Ideal S576x192 .f32)
    (wu : Vec Ideal S192x192 .f32) (bu : Vec Ideal S192 .f32) (wf : Vec Ideal S192x192 .f32) (wd : Vec Ideal S192x2 .f32)
    (hx : m ((c : Thread nD τ).loc main_arg0) = x) (hq : m ((c : Thread nD τ).loc main_arg1) = wq) (hk : m ((c : Thread nD τ).loc main_arg2) = wk)
    (hv : m ((c : Thread nD τ).loc main_arg3) = wv) (ho : m ((c : Thread nD τ).loc main_arg4) = wo) (hu : m ((c : Thread nD τ).loc main_arg5) = wu)
    (hb : m ((c : Thread nD τ).loc main_arg6) = bu) (hf : m ((c : Thread nD τ).loc main_arg7) = wf) (hd : m ((c : Thread nD τ).loc main_arg8) = wd) :
    W7 m ρ c (Proc.devRef .tc main_v20) = fun i : S1x192x224x224.Idx =>
      attnOut (img x) (fun c d => wq (ix2 c d)) (fun c d => wk (ix2 c d)) (fun c d => wv (ix2 c d)) (fun d c => wo (ix2 d c)) (i 1)
          ⟨(i 2).1 * 224 + (i 3).1, by have h1 : (i 2).1 < 224 := (i 2).2; have h2 : (i 3).1 < 224 := (i 3).2; omega⟩ * wd (ix2 (i 1) 0) +
        modul (ctx (feat (fun c o => wf (ix2 c o)) (pooledK (img x)))) (quer (fun d c => wu (ix2 d c)) (fun c => bu (ix1 c)) fun d => x (ix4 0 d (i 2) (i 3))) (i 1) * wd (ix2 (i 1) 1) := by
  have hX : W5 m ρ c (Proc.devRef .tc main_v0) = fun i : S192x50176.Idx => img x (i 0) (i 1) :=
    (W5_of m ρ c main_v0 (by decide)).trans ((W4_of m ρ c main_v0 (by decide)).trans ((W3_of m ρ c main_v0 (by decide)).trans ((W2_of m ρ c main_v0 (by decide)).trans (W1_v0 m ρ c x hx))))
  have hP := (W5_of m ρ c main_v14_0 (by decide)).trans ((W4_of m ρ c main_v14_0 (by decide)).trans ((W3_of m ρ c main_v14_0 (by decide)).trans (W2_spa m ρ c x wq wk wv wo hx hq hk hv ho)))
  have hC := (W5_of m ρ c main_v17 (by decide)).trans (W4_ctx m ρ c x wf hx hf)
  have hB := W5_v18 m ρ c bu hb
  have hO := (W6_arr m ρ c 6).trans (arr2_6 (V5 m ρ) c _ _ _ wu _ wd hX hP hC ((W5_args m ρ c main_arg5 (by decide)).trans hu) hB ((W5_args m ρ c main_arg8 (by decide)).trans hd))
  rw [W7_v20 m ρ c _ hO]
  funext i; idx_vars i
  have h1 : ∀ h, (⟨(i2.1 * 224 + i3.1) / 224, h⟩ : Fin 224) = i2 := fun _ => Fin.ext (by simp only; omega)
  have h2 : ∀ h, (⟨(i2.1 * 224 + i3.1) % 224, h⟩ : Fin 224) = i3 := fun _ => Fin.ext (by simp only; omega)
  pointwise [img]
  simp only [h1, h2]

end Cert.KernelIdeal.Strip

end
-- ==== Proof.KRun.lean ====
/- The kernel's run, its result array kept. -/
module

public import proofs.«01_k».proof.Proof.KVal

@[expose] public section

set_option maxRecDepth 16384

noncomputable section

namespace Cert.KernelIdeal.Strip

open Idealize.ShloMosaic Idealize.ShloMosaic.TcCoe Idealize.ShloMosaic.Tactic Cert.KernelIdeal Cert.KernelIdeal.Gen Cert.Spec
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- From any memory with zero counters the kernel's run ends with the result array as the last stretch of the program leaves it and the arguments as launched. -/
theorem run : θ_run defs (onTc (τ := τ) (main (F := Ideal))) ⟨m, fun _ => 0, ρ⟩ (fun r => ∀ c : Dev nD,
      r.2.mem ((c.tc : Thread nD τ).loc main_v20) = W7 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => (fun c =>
      ⟨h c _ (mem_uc main_v20 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c)⟩))

end Cert.KernelIdeal.Strip

end
-- ==== Proof.LogSum.lean ====
/- The logarithm of a sum of exponentials, over the extended reals. -/
module

public import proofs.«01_k».proof.Proof.Spec

@[expose] public section

noncomputable section

namespace Cert.Spec

open Idealize.ShloMosaic

/-- A sum of reals is real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm of the sum of the exponentials of a row, the row's maximum subtracted first and added back. -/
def lse {n : ℕ} (s : Fin n → EReal) : EReal := Ideal.log (∑ j, Ideal.exp (s j - top s)) + top s

/-- The largest entry is the supremum. -/
theorem top_eq {n : ℕ} (s : Fin n → EReal) : top s = ⨆ j, s j := by
  unfold top
  rw [← Finset.sup_univ_eq_iSup]
  rfl

/-- The largest of finitely many reals is real. -/
theorem top_coe {n : ℕ} [NeZero n] (f : Fin n → ℝ) : ∃ m : ℝ, top (fun j => (f j : EReal)) = m := by
  obtain ⟨i, _, h⟩ := Finset.exists_mem_eq_sup (Finset.univ : Finset (Fin n)) Finset.univ_nonempty fun j => (f j : EReal)
  exact ⟨f i, h⟩

/-- The order of the entries does not matter to the largest. -/
theorem top_perm {n : ℕ} (s : Fin n → EReal) (π : Fin n → Fin n) (h : Function.Bijective π) : top (fun j => s (π j)) = top s := by
  rw [top_eq, top_eq]
  exact (Equiv.ofBijective π h).iSup_comp (g := s)

/-- The order of the entries does not matter to a sum. -/
theorem sum_perm {n : ℕ} (s : Fin n → EReal) (π : Fin n → Fin n) (h : Function.Bijective π) : ∑ j, s (π j) = ∑ j, s j :=
  (Equiv.ofBijective π h).sum_comp s

/-- Nor to the logarithm of the sum of exponentials. -/
theorem lse_perm {n : ℕ} (s : Fin n → EReal) (π : Fin n → Fin n) (h : Function.Bijective π) : lse (fun j => s (π j)) = lse s := by
  unfold lse
  rw [top_perm s π h, sum_perm (fun j => Ideal.exp (s j - top s)) π h]

/-- For real entries it is real, and subtracting it inside the exponential gives the softmax. -/
theorem lse_coe {n : ℕ} [NeZero n] (f : Fin n → ℝ) : ∃ l : ℝ, lse (fun j => (f j : EReal)) = l ∧
    ∀ j, Ideal.exp ((f j : EReal) - (l : EReal)) = soft (fun j => (f j : EReal)) j := by
  obtain ⟨m, hm⟩ := top_coe f
  have hs : (∑ j, Ideal.exp ((f j : EReal) - (m : EReal))) = ((∑ j, Real.exp (f j - m) : ℝ) : EReal) := by
    rw [coe_sum]
    exact Finset.sum_congr rfl fun j _ => by rw [← EReal.coe_sub]; rfl
  have hpos : 0 < ∑ j, Real.exp (f j - m) := Finset.sum_pos (fun j _ => Real.exp_pos _) Finset.univ_nonempty
  have hl : lse (fun j => (f j : EReal)) = ((Real.log (∑ j, Real.exp (f j - m)) + m : ℝ) : EReal) := by
    unfold lse
    rw [hm, hs, EReal.coe_add]
    congr 1
    show (if (∑ j, Real.exp (f j - m)) ≤ 0 then ⊥ else ((Real.log (∑ j, Real.exp (f j - m)) : ℝ) : EReal)) = _
    rw [if_neg (not_le.2 hpos)]
  refine ⟨_, hl, fun j => ?_⟩
  unfold soft
  rw [hm, hs, Ideal.div_coe (ne_of_gt hpos), ← EReal.coe_sub, ← EReal.coe_sub]
  show ((Real.exp (f j - (Real.log (∑ j, Real.exp (f j - m)) + m)) : ℝ) : EReal) = ((Real.exp (f j - m) : ℝ) : EReal) * _
  rw [← EReal.coe_mul, show f j - (Real.log (∑ j, Real.exp (f j - m)) + m) = (f j - m) - Real.log (∑ j, Real.exp (f j - m)) by ring, Real.exp_sub, Real.exp_log hpos, mul_one_div]

/-- A real is its own absolute value test: it lies below infinity. -/
theorem abs_lt_top (l : ℝ) : max (l : EReal) (-(l : EReal)) < ⊤ :=
  max_lt (EReal.coe_lt_top l) (by rw [← EReal.coe_neg]; exact EReal.coe_lt_top _)

/-- An infinite extended real has no finite absolute value. -/
theorem coe_of_abs_lt {a : EReal} (h : max a (-a) < ⊤) : ∃ r : ℝ, a = r := by
  induction a with
  | bot => simp at h
  | coe r => exact ⟨r, rfl⟩
  | top => simp at h

/-- Two equal halves make a whole. -/
theorem halves (a : EReal) : a * ((1 / 2 : ℝ) : EReal) + a * ((1 / 2 : ℝ) : EReal) = a := by
  have h : (0 : EReal) ≤ ((1 / 2 : ℝ) : EReal) := by exact_mod_cast (by norm_num : (0 : ℝ) ≤ 1 / 2)
  rw [← EReal.left_distrib_of_nonneg h h, ← EReal.coe_add]
  norm_num

/-- Over two equal real entries the softmax weight is one half. -/
theorem half (l : ℝ) : Ideal.exp ((l : EReal) - (Ideal.log (Ideal.exp ((l : EReal) - l) + Ideal.exp ((l : EReal) - l)) + l)) = ((1 / 2 : ℝ) : EReal) := by
  rw [← EReal.coe_sub, sub_self]
  show Ideal.exp ((l : EReal) - (Ideal.log (((Real.exp 0 : ℝ) : EReal) + ((Real.exp 0 : ℝ) : EReal)) + l)) = _
  rw [← EReal.coe_add, Real.exp_zero, one_add_one_eq_two]
  have e : Ideal.log ((2 : ℝ) : EReal) = ((Real.log 2 : ℝ) : EReal) := by
    show (if (2 : ℝ) ≤ 0 then ⊥ else ((Real.log 2 : ℝ) : EReal)) = _
    rw [if_neg (by norm_num)]
  rw [e, ← EReal.coe_add, ← EReal.coe_sub]
  show ((Real.exp (l - (Real.log 2 + l)) : ℝ) : EReal) = _
  rw [show l - (Real.log 2 + l) = - Real.log 2 by ring, Real.exp_neg, Real.exp_log (by norm_num), one_div]

/-- A sum of products of reals is real. -/
theorem sum_mul_coe {ι : Type} [Fintype ι] {a b : ι → EReal} (ha : ∀ i, ∃ r : ℝ, a i = r) (hb : ∀ i, ∃ r : ℝ, b i = r) : ∃ r : ℝ, ∑ i, a i * b i = r := by
  choose f hf using ha
  choose g hg using hb
  refine ⟨∑ i, f i * g i, ?_⟩
  rw [coe_sum]
  exact Finset.sum_congr rfl fun i _ => by rw [hf, hg, EReal.coe_mul]

/-- The scores of real tokens and weights are real. -/
theorem score_coe {T : Fin 64 → Fin 192 → EReal} {wq wk : Fin 192 → Fin 144 → EReal} (hT : ∀ i c, ∃ r : ℝ, T i c = r)
    (hq : ∀ c d, ∃ r : ℝ, wq c d = r) (hk : ∀ c d, ∃ r : ℝ, wk c d = r) (i j : Fin 64) : ∃ r : ℝ, score T wq wk i j = r :=
  sum_mul_coe (fun d => sum_mul_coe (hT i) fun c => hq c d) fun d => sum_mul_coe (hT j) fun c => hk c d

end Cert.Spec

end
-- ==== Proof.RefTok.lean ====
/- The reference's windows and their projections at an index. -/
module

public import proofs.«01_k».proof.Proof.Spec
public import proofs.«01_k».proof.Proof.Gen.ReferenceIdeal.Read

@[expose] public section

set_option maxRecDepth 16384

noncomputable section

namespace Cert.ReferenceIdeal.Closed

open Idealize.ShloMosaic Cert.ReferenceIdeal Cert.ReferenceIdeal.Gen Cert.ReferenceIdeal.Read Cert.Spec

/-- Channel `c` of token `i` of window `P`: a pixel of the image. -/
def tok (x0 : Vec Ideal S1x192x224x224 .f32) (P : Fin 784) (i : Fin 64) (c : Fin 192) : EReal :=
  x0 (ix4 0 c ⟨P.1 / 28 * 8 + i.1 / 8, by omega⟩ ⟨P.1 % 28 * 8 + i.1 % 8, by omega⟩)

/-- Head `h`'s columns of a projection. -/
def cols (w : Vec Ideal S192x576 .f32) (h : Fin 4) (c : Fin 192) (d : Fin 144) : EReal := w (ix2 c ⟨h.1 * 144 + d.1, by omega⟩)

theorem v4_apply (x0 : Vec Ideal S1x192x224x224 .f32) (P : Fin 784) (i : Fin 64) (c : Fin 192) :
    val_main_v4 (F := Ideal) x0 (ix3 P i c) = tok x0 P i c := by
  unfold val_main_v4 val_main_v3 val_main_v2 val_main_v1 val_main_v0 tok
  pointwise

/-- The queries by window and head. -/
theorem v33_apply (x0 : Vec Ideal S1x192x224x224 .f32) (w : Vec Ideal S192x576 .f32) (b : Fin 3136) (i : Fin 64) (d : Fin 144) :
    val_main_v33 (F := Ideal) x0 w (ix3 b i d) = proj (tok x0 ⟨b.1 / 4, by omega⟩) (cols w ⟨b.1 % 4, by omega⟩) i d := by
  have h := v4_apply x0
  unfold val_main_v33 val_main_v32 val_main_v31 val_main_v5 proj cols
  generalize val_main_v4 (F := Ideal) x0 = f at h
  pointwise
  simp only [h]

/-- The keys by window and head. -/
theorem v36_apply (x0 : Vec Ideal S1x192x224x224 .f32) (w : Vec Ideal S192x576 .f32) (b : Fin 3136) (i : Fin 64) (d : Fin 144) :
    val_main_v36 (F := Ideal) x0 w (ix3 b i d) = proj (tok x0 ⟨b.1 / 4, by omega⟩) (cols w ⟨b.1 % 4, by omega⟩) i d :=
  v33_apply x0 w b i d

/-- The values by window and head. -/
theorem v39_apply (x0 : Vec Ideal S1x192x224x224 .f32) (w : Vec Ideal S192x576 .f32) (b : Fin 3136) (i : Fin 64) (d : Fin 144) :
    val_main_v39 (F := Ideal) x0 w (ix3 b i d) = proj (tok x0 ⟨b.1 / 4, by omega⟩) (cols w ⟨b.1 % 4, by omega⟩) i d :=
  v33_apply x0 w b i d

end Cert.ReferenceIdeal.Closed

end
-- ==== Proof.RefTake.lean ====
/- The reference's rows taken in hash order. -/
module

public import proofs.«01_k».proof.Proof.Spec
public import proofs.«01_k».proof.Proof.RefTok
public import proofs.«01_k».proof.Proof.Gen.ReferenceIdeal.Read
public import Idealize.ShloMosaic.Lib.Routing.Ops
public import Idealize.ShloMosaic.Lib.WordCmp

@[expose] public section

set_option maxRecDepth 16384

noncomputable section

namespace Cert.ReferenceIdeal.Closed

open Idealize.ShloMosaic Idealize.ShloMosaic.WordCmp Idealize.ShloMosaic.Routing Cert.ReferenceIdeal Cert.ReferenceIdeal.Gen Cert.ReferenceIdeal.Read Cert.Spec

/-- A small word is not negative. -/
theorem slt_zero {n : ℕ} (h : n < 2 ^ 31) : IntOp.cmpi .slt (BitVec.ofNat 32 n) 0#32 = 0#1 := by
  show BitVec.ofBool (BitVec.slt _ _) = _
  rw [BitVec.slt, toInt_ofNat_of_lt (w := 32) h]
  rw [decide_eq_false (by simp)]
  rfl

/-- A small word is at least zero. -/
theorem sge_zero {n : ℕ} (h : n < 2 ^ 31) : IntOp.cmpi .sge (BitVec.ofNat 32 n) 0#32 = 1#1 := by
  show BitVec.ofBool (BitVec.sle _ _) = _
  rw [BitVec.sle, toInt_ofNat_of_lt (w := 32) h]
  rw [decide_eq_true (by simp)]
  rfl

/-- Small words compare as their numbers. -/
theorem sle_bound {n N : ℕ} (h : n ≤ N) (hN : N < 2 ^ 31) : IntOp.cmpi .sle (BitVec.ofNat 32 n) (BitVec.ofNat 32 N) = 1#1 := by
  show BitVec.ofBool (BitVec.sle _ _) = _
  rw [BitVec.sle, toInt_ofNat_of_lt (w := 32) (lt_of_le_of_lt h hN), toInt_ofNat_of_lt (w := 32) hN]
  rw [decide_eq_true (by exact_mod_cast h)]
  rfl

variable (x0 : Vec Ideal S1x192x224x224 .f32) (x9 : Vec Ideal S50x2 .f32) (x10 : Vec Ideal S1x2 .f32)

/-- The row numbers taken: 64 times the window and head, plus the position. -/
theorem v48_apply (π : Fin 2 → Fin 3136 → Fin 64 → Fin 64)
    (h30 : ∀ r b k, val_main_v30 (F := Ideal) x0 x9 x10 (ix3 r b k) = BitVec.ofNat 32 (π r b k).1) (p : Fin 401408) :
    val_main_v48 (F := Ideal) x0 x9 x10 (ix1 p) =
      BitVec.ofNat 32 ((π ⟨p.1 / 200704, by omega⟩ ⟨p.1 / 64 % 3136, by omega⟩ ⟨p.1 % 64, by omega⟩).1 + p.1 / 64 % 3136 * 64) := by
  unfold val_main_v48 val_main_v47 val_main_v46 val_main_v45 val_main_v44 val_main_v43 val_main_v42 val_main_v41 val_main_c
  generalize val_main_v30 (F := Ideal) x0 x9 x10 = f at h30
  pointwise
  simp only [h30]
  show BitVec.ofNat 32 _ + BitVec.ofNat 32 _ * BitVec.ofNat 32 64 = _
  rw [← BitVec.ofNat_mul, ← BitVec.ofNat_add]

/-- A row taken at a row number in bounds. -/
theorem v50_apply (x1 : Vec Ideal S192x576 .f32) (p : Fin 401408) (d : Fin 144) (n : Fin 200704)
    (h : val_main_v48 (F := Ideal) x0 x9 x10 (ix1 p) = BitVec.ofNat 32 n.1) :
    val_main_v50 (F := Ideal) x0 x1 x9 x10 (ix2 p d) = val_main_v49 (F := Ideal) x0 x1 (ix2 n d) := by
  have hn : (BitVec.ofNat 32 n.1).toInt = (n.1 : Int) := toInt_ofNat_of_lt (w := 32) (by omega)
  have h5 : val_main_call3_v5 (F := Ideal) x0 x9 x10 (ix2 p (0 : Fin 1)) = BitVec.ofNat 32 n.1 := by
    unfold val_main_call3_v5 val_main_call3_v4 val_main_call3_v3 val_main_call3_v2 val_main_call3_v1 val_main_call3_v0 val_main_call3_c
    generalize val_main_v48 (F := Ideal) x0 x9 x10 = f at h
    pointwise
    rw [h, slt_zero (by omega)]
    rfl
  have h14 : val_main_call3_v14 (F := Ideal) x0 x9 x10 (ix2 p d) = 1#1 := by
    unfold val_main_call3_v14 val_main_call3_v12 val_main_call3_v11 val_main_call3_v10 val_main_call3_v9 val_main_call3_v8 val_main_call3_v7 val_main_call3_v6 val_main_call3_c_1 val_main_call3_c_2 val_main_call3_c_3
    generalize val_main_call3_v5 (F := Ideal) x0 x9 x10 = f at h5
    pointwise
    rw [show (Finset.univ : Finset (Fin 1)) = {0} from rfl, Finset.fold_singleton, h5, sge_zero (by omega)]
    rw [show IntOp.cmpi .sle (BitVec.ofNat 32 n.1) 200703#32 = 1#1 from sle_bound (N := 200703) (by omega) (by decide)]
    rfl
  have h13 : val_main_call3_v13 (F := Ideal) x0 x1 x9 x10 (ix2 p d) = val_main_v49 (F := Ideal) x0 x1 (ix2 n d) := by
    unfold val_main_call3_v13
    exact gather_row gather_S200704x144_S401408x1_S401408x144_1_0_n_n_0_1_1144 rfl rfl rfl rfl rfl _ _ p d n h5 (by decide)
  unfold val_main_v50
  generalize val_main_call3_v14 (F := Ideal) x0 x9 x10 = m at h14
  generalize val_main_call3_v13 (F := Ideal) x0 x1 x9 x10 = g at h13
  pointwise
  rw [h14, h13]
  rfl

/-- Position `k` of group `g` holds the row the permutation puts there. -/
theorem v51_apply (π : Fin 2 → Fin 3136 → Fin 64 → Fin 64)
    (h30 : ∀ r b k, val_main_v30 (F := Ideal) x0 x9 x10 (ix3 r b k) = BitVec.ofNat 32 (π r b k).1)
    (x1 : Vec Ideal S192x576 .f32) (g : Fin 6272) (k : Fin 64) (d : Fin 144) :
    val_main_v51 (F := Ideal) x0 x1 x9 x10 (ix3 g k d) =
      proj (tok x0 ⟨g.1 % 3136 / 4, by omega⟩) (cols x1 ⟨g.1 % 3136 % 4, by omega⟩) (π ⟨g.1 / 3136, by omega⟩ ⟨g.1 % 3136, by omega⟩ k) d := by
  have hp := (π ⟨g.1 / 3136, by omega⟩ ⟨g.1 % 3136, by omega⟩ k).2
  have h48 := v48_apply x0 x9 x10 π h30 ⟨g.1 * 64 + k.1, by omega⟩
  have e1 : (⟨(g.1 * 64 + k.1) / 200704, by omega⟩ : Fin 2) = ⟨g.1 / 3136, by omega⟩ := Fin.ext (by simp only []; omega)
  have e2 : (⟨(g.1 * 64 + k.1) / 64 % 3136, by omega⟩ : Fin 3136) = ⟨g.1 % 3136, by omega⟩ := Fin.ext (by simp only []; omega)
  have e3 : (⟨(g.1 * 64 + k.1) % 64, by omega⟩ : Fin 64) = k := Fin.ext (by simp only []; omega)
  simp only [e1, e2, e3] at h48
  clear e1 e2 e3
  generalize π ⟨g.1 / 3136, by omega⟩ ⟨g.1 % 3136, by omega⟩ k = q at h48 hp ⊢
  have h50 := v50_apply x0 x9 x10 x1 ⟨g.1 * 64 + k.1, by omega⟩ d
    ⟨q.1 + (g.1 * 64 + k.1) / 64 % 3136 * 64, by omega⟩ h48
  have h33 := v33_apply x0 x1
  unfold val_main_v51
  generalize val_main_v50 (F := Ideal) x0 x1 x9 x10 = f at h50
  pointwise
  rw [h50]
  unfold val_main_v49
  generalize val_main_v33 (F := Ideal) x0 x1 = f at h33
  pointwise
  rw [h33]
  have e4 : (⟨(q.1 + (g.1 * 64 + k.1) / 64 % 3136 * 64) / 64 / 4, by omega⟩ : Fin 784) = ⟨g.1 % 3136 / 4, by omega⟩ := Fin.ext (by simp only []; omega)
  have e5 : (⟨(q.1 + (g.1 * 64 + k.1) / 64 % 3136 * 64) / 64 % 4, by omega⟩ : Fin 4) = ⟨g.1 % 3136 % 4, by omega⟩ := Fin.ext (by simp only []; omega)
  have e6 : (⟨(q.1 + (g.1 * 64 + k.1) / 64 % 3136 * 64) % 64, by omega⟩ : Fin 64) = q := Fin.ext (by simp only []; omega)
  simp only [e4, e5, e6]

/-- The keys in the same order. -/
theorem v54_apply (π : Fin 2 → Fin 3136 → Fin 64 → Fin 64)
    (h30 : ∀ r b k, val_main_v30 (F := Ideal) x0 x9 x10 (ix3 r b k) = BitVec.ofNat 32 (π r b k).1)
    (x1 : Vec Ideal S192x576 .f32) (g : Fin 6272) (k : Fin 64) (d : Fin 144) :
    val_main_v54 (F := Ideal) x0 x1 x9 x10 (ix3 g k d) =
      proj (tok x0 ⟨g.1 % 3136 / 4, by omega⟩) (cols x1 ⟨g.1 % 3136 % 4, by omega⟩) (π ⟨g.1 / 3136, by omega⟩ ⟨g.1 % 3136, by omega⟩ k) d :=
  v51_apply x0 x9 x10 π h30 x1 g k d

/-- The values in the same order. -/
theorem v57_apply (π : Fin 2 → Fin 3136 → Fin 64 → Fin 64)
    (h30 : ∀ r b k, val_main_v30 (F := Ideal) x0 x9 x10 (ix3 r b k) = BitVec.ofNat 32 (π r b k).1)
    (x1 : Vec Ideal S192x576 .f32) (g : Fin 6272) (k : Fin 64) (d : Fin 144) :
    val_main_v57 (F := Ideal) x0 x1 x9 x10 (ix3 g k d) =
      proj (tok x0 ⟨g.1 % 3136 / 4, by omega⟩) (cols x1 ⟨g.1 % 3136 % 4, by omega⟩) (π ⟨g.1 / 3136, by omega⟩ ⟨g.1 % 3136, by omega⟩ k) d :=
  v51_apply x0 x9 x10 π h30 x1 g k d

end Cert.ReferenceIdeal.Closed

end
-- ==== Proof.RefAttn.lean ====
/- The reference's attention within a window, in hash order. -/
module

public import proofs.«01_k».proof.Proof.Spec
public import proofs.«01_k».proof.Proof.LogSum
public import proofs.«01_k».proof.Proof.RefTake

@[expose] public section

set_option maxRecDepth 16384

noncomputable section

namespace Cert.ReferenceIdeal.Closed

open Idealize.ShloMosaic Cert.ReferenceIdeal Cert.ReferenceIdeal.Gen Cert.ReferenceIdeal.Read Cert.Spec

variable (x0 : Vec Ideal S1x192x224x224 .f32) (x9 : Vec Ideal S50x2 .f32) (x10 : Vec Ideal S1x2 .f32)
variable (x1 x2 x3 : Vec Ideal S192x576 .f32)

theorem bits_bot : Ideal.ofBits .f32 0xFF800000#32 = ⊥ := by simp [Ideal.ofBits, Ideal.ieee]
theorem bits_top : Ideal.ofBits .f32 0x7F800000#32 = ⊤ := by simp [Ideal.ofBits, Ideal.ieee]

/-- The scores of group `g`: those of its window and head, rows and columns in the group's order. -/
theorem v58_apply (π : Fin 2 → Fin 3136 → Fin 64 → Fin 64)
    (h30 : ∀ r b k, val_main_v30 (F := Ideal) x0 x9 x10 (ix3 r b k) = BitVec.ofNat 32 (π r b k).1) (g : Fin 6272) (k j : Fin 64) :
    val_main_v58 (F := Ideal) x0 x1 x2 x9 x10 (ix3 g k j) =
      score (tok x0 ⟨g.1 % 3136 / 4, by omega⟩) (cols x1 ⟨g.1 % 3136 % 4, by omega⟩) (cols x2 ⟨g.1 % 3136 % 4, by omega⟩)
        (π ⟨g.1 / 3136, by omega⟩ ⟨g.1 % 3136, by omega⟩ k) (π ⟨g.1 / 3136, by omega⟩ ⟨g.1 % 3136, by omega⟩ j) := by
  have h1 := v51_apply x0 x9 x10 π h30 x1
  have h2 := v54_apply x0 x9 x10 π h30 x2
  unfold val_main_v58 score
  generalize val_main_v51 (F := Ideal) x0 x1 x9 x10 = f1 at h1
  generalize val_main_v54 (F := Ideal) x0 x2 x9 x10 = f2 at h2
  pointwise
  simp only [h1, h2]

/-- The maximum over the last axis. -/
theorem rowMax (f : FVec Ideal S6272x64x64 .f32) (g : FVec Ideal S_ .f32) (a : Fin 6272) (k : Fin 64) :
    Host.reduce (FloatOps.maximumf (F := Ideal) (φ := .f32)) f g reducesTo_S6272x64x64_S6272x64_d2 h_S_ (ix2 a k) =
      Finset.fold max (g (Shape.Idx.first h_S_)) (fun x => f (ix3 a k x)) Finset.univ := by
  pointwise

/-- The row's maximum. -/
theorem v59_apply (g : Fin 6272) (k : Fin 64) :
    val_main_v59 (F := Ideal) x0 x1 x2 x9 x10 (ix2 g k) = top fun j => val_main_v58 (F := Ideal) x0 x1 x2 x9 x10 (ix3 g k j) := by
  unfold val_main_v59
  generalize val_main_v58 (F := Ideal) x0 x1 x2 x9 x10 = f
  rw [rowMax, val_main_cst_3_apply]
  show Finset.fold max (Ideal.ofBits .f32 0xFF800000#32) (fun x => f (ix3 g k x)) Finset.univ = _
  rw [bits_bot]
  rfl

/-- A real row's maximum passes the test for finiteness. -/
theorem v64_apply (g : Fin 6272) (k : Fin 64) (h : ∀ j, ∃ r : ℝ, val_main_v58 (F := Ideal) x0 x1 x2 x9 x10 (ix3 g k j) = r) :
    val_main_v64 (F := Ideal) x0 x1 x2 x9 x10 (ix3 g k 0) = top fun j => val_main_v58 (F := Ideal) x0 x1 x2 x9 x10 (ix3 g k j) := by
  choose s hs using h
  obtain ⟨m, hm⟩ := top_coe s
  have h59 := v59_apply x0 x9 x10 x1 x2 g k
  simp only [hs] at h59 ⊢
  rw [hm] at h59 ⊢
  have h62 : val_main_v62 (F := Ideal) (ix3 g k 0) = ⊤ := by
    rw [val_main_v62_apply, val_main_cst_4_apply]
    exact bits_top
  have h60 : val_main_v60 (F := Ideal) x0 x1 x2 x9 x10 (ix3 g k 0) = m := by
    unfold val_main_v60
    generalize val_main_v59 (F := Ideal) x0 x1 x2 x9 x10 = f at h59
    pointwise
    exact h59
  have h63 : val_main_v63 (F := Ideal) x0 x1 x2 x9 x10 (ix3 g k 0) = 1#1 := by
    rw [val_main_v63_apply, val_main_v61_apply, h62, h60]
    exact congrArg BitVec.ofBool (decide_eq_true (abs_lt_top m))
  rw [val_main_v64_apply, h63, h60]
  rfl

/-- The logarithm of a row's sum of exponentials. -/
theorem v71_apply (g : Fin 6272) (k : Fin 64) (h : ∀ j, ∃ r : ℝ, val_main_v58 (F := Ideal) x0 x1 x2 x9 x10 (ix3 g k j) = r) :
    val_main_v71 (F := Ideal) x0 x1 x2 x9 x10 (ix3 g k 0) = lse fun j => val_main_v58 (F := Ideal) x0 x1 x2 x9 x10 (ix3 g k j) := by
  have h64 := v64_apply x0 x9 x10 x1 x2 g k h
  unfold lse
  rw [← h64]
  unfold val_main_v71 val_main_v70 val_main_v69 val_main_v68 val_main_v67 val_main_v66 val_main_v65 val_main_cst_6
  generalize val_main_v64 (F := Ideal) x0 x1 x2 x9 x10 = m
  generalize val_main_v58 (F := Ideal) x0 x1 x2 x9 x10 = f
  pointwise

/-- Attention within a group, its rows in the group's order. -/
theorem v75_apply (π : Fin 2 → Fin 3136 → Fin 64 → Fin 64) (hπ : ∀ r b, Function.Bijective (π r b))
    (h30 : ∀ r b k, val_main_v30 (F := Ideal) x0 x9 x10 (ix3 r b k) = BitVec.ofNat 32 (π r b k).1)
    (hT : ∀ i, ∃ r : ℝ, x0 i = r) (hq : ∀ i, ∃ r : ℝ, x1 i = r) (hk : ∀ i, ∃ r : ℝ, x2 i = r) (g : Fin 6272) (k : Fin 64) :
    (val_main_v71 (F := Ideal) x0 x1 x2 x9 x10 (ix3 g k 0) =
      lse (score (tok x0 ⟨g.1 % 3136 / 4, by omega⟩) (cols x1 ⟨g.1 % 3136 % 4, by omega⟩) (cols x2 ⟨g.1 % 3136 % 4, by omega⟩)
        (π ⟨g.1 / 3136, by omega⟩ ⟨g.1 % 3136, by omega⟩ k))) ∧ ∀ d,
    val_main_v75 (F := Ideal) x0 x1 x2 x3 x9 x10 (ix3 g k d) =
      attn (tok x0 ⟨g.1 % 3136 / 4, by omega⟩) (cols x1 ⟨g.1 % 3136 % 4, by omega⟩) (cols x2 ⟨g.1 % 3136 % 4, by omega⟩) (cols x3 ⟨g.1 % 3136 % 4, by omega⟩)
        (π ⟨g.1 / 3136, by omega⟩ ⟨g.1 % 3136, by omega⟩ k) d := by
  have h58 := v58_apply x0 x9 x10 x1 x2 π h30 g k
  have h57 := v57_apply x0 x9 x10 π h30 x3 g
  have hb := hπ ⟨g.1 / 3136, by omega⟩ ⟨g.1 % 3136, by omega⟩
  have hs := score_coe (T := tok x0 ⟨g.1 % 3136 / 4, by omega⟩) (wq := cols x1 ⟨g.1 % 3136 % 4, by omega⟩) (wk := cols x2 ⟨g.1 % 3136 % 4, by omega⟩)
    (fun i c => hT _) (fun c d => hq _) (fun c d => hk _) (π ⟨g.1 / 3136, by omega⟩ ⟨g.1 % 3136, by omega⟩ k)
  have h71 := v71_apply x0 x9 x10 x1 x2 g k (fun j => by rw [h58]; exact hs _)
  unfold attn
  generalize π ⟨g.1 / 3136, by omega⟩ ⟨g.1 % 3136, by omega⟩ = p at *
  generalize score (tok x0 ⟨g.1 % 3136 / 4, by omega⟩) (cols x1 ⟨g.1 % 3136 % 4, by omega⟩) (cols x2 ⟨g.1 % 3136 % 4, by omega⟩) (p k) = s at *
  simp only [h58] at h71
  rw [lse_perm s p hb] at h71
  refine ⟨h71, fun d => ?_⟩
  choose f hf using hs
  obtain ⟨l, hl, hx⟩ := lse_coe f
  have hsf : s = fun j => (f j : EReal) := funext hf
  unfold val_main_v75 val_main_v74 val_main_v73 val_main_v72
  generalize val_main_v71 (F := Ideal) x0 x1 x2 x9 x10 = y1 at h71
  generalize val_main_v58 (F := Ideal) x0 x1 x2 x9 x10 = y2 at h58
  generalize val_main_v57 (F := Ideal) x0 x3 x9 x10 = y3 at h57
  pointwise
  simp only [h58, h57, h71, hsf, hl, hx]
  exact sum_perm (fun j => soft (fun j => (f j : EReal)) j * proj (tok x0 ⟨g.1 % 3136 / 4, by omega⟩) (cols x3 ⟨g.1 % 3136 % 4, by omega⟩) j d) p hb

end Cert.ReferenceIdeal.Closed

end
-- ==== Proof.RefPerm.lean ====
/- The two sorts of the reference: the positions within a window in hash order, and the way back. -/
module

public import proofs.«01_k».proof.Proof.Gen.ReferenceIdeal.Read
public import Idealize.ShloMosaic.Lib.SortFacts
public import Idealize.ShloMosaic.Lib.WordCmp
public import Idealize.ShloMosaic.Lib.Pointwise

@[expose] public section

set_option maxRecDepth 16384

noncomputable section

namespace Cert.ReferenceIdeal.Closed

open Idealize.ShloMosaic Idealize.ShloMosaic.WordCmp Cert.ReferenceIdeal Cert.ReferenceIdeal.Gen Cert.ReferenceIdeal.Read

/-- A sort along the last axis that carries the positions yields a permutation of the positions. -/
theorem sort2_iota {A B C : ℕ} {α : Type} (cmp : α × BitVec 32 → α × BitVec 32 → BitVec 1) (x : (⟨3, ![A, B, C]⟩ : Shape).Idx → α)
    (r : Fin A) (b : Fin B) (k : Fin C) :
    (Host.sort2 ⟨3, ![A, B, C]⟩ 2 cmp x (iotaInDim ⟨3, ![A, B, C]⟩ 32 (2 : Fin 3))).2 (ix3 r b k) =
      BitVec.ofNat 32 (sortedFrom (fun a c : Fin C => cmp (x (ix3 r b a), BitVec.ofNat 32 a.1) (x (ix3 r b c), BitVec.ofNat 32 c.1) == 1#1) k).1 := by
  have e : ∀ a : Fin C, Shape.Idx.along (s := ⟨3, ![A, B, C]⟩) (ix3 r b k) (2 : Fin 3) a = ix3 r b a := by
    intro a
    funext d
    match d with
    | ⟨0, _⟩ => rfl
    | ⟨1, _⟩ => rfl
    | ⟨2, _⟩ => rfl
  have hf : (fun a c : Fin C => cmp (x (Shape.Idx.along (s := ⟨3, ![A, B, C]⟩) (ix3 r b k) (2 : Fin 3) a), BitVec.ofNat 32 a.1)
      (x (Shape.Idx.along (s := ⟨3, ![A, B, C]⟩) (ix3 r b k) (2 : Fin 3) c), BitVec.ofNat 32 c.1) == 1#1) =
      fun a c : Fin C => cmp (x (ix3 r b a), BitVec.ofNat 32 a.1) (x (ix3 r b c), BitVec.ofNat 32 c.1) == 1#1 := by
    funext a c
    rw [e, e]
  rw [← hf]
  unfold Host.sort2
  rw [dif_pos (show 2 < (⟨3, ![A, B, C]⟩ : Shape).rank by show 2 < 3; decide)]
  rfl

/-- Sorting the words of a permutation's values gives its inverse. -/
theorem sorted_inverse (π : Fin 64 → Fin 64) (hπ : Function.Injective π) (i : Fin 64) :
    π (sortedFrom (fun a c : Fin 64 => comparator_i32_i32_d2 (BitVec.ofNat 32 (π a).1, BitVec.ofNat 32 a.1) (BitVec.ofNat 32 (π c).1, BitVec.ofNat 32 c.1) == 1#1) i) = i := by
  have hc : (fun a c : Fin 64 => comparator_i32_i32_d2 (BitVec.ofNat 32 (π a).1, BitVec.ofNat 32 a.1) (BitVec.ofNat 32 (π c).1, BitVec.ofNat 32 c.1) == 1#1) = fun a c => decide (π a < π c) := by
    funext a c
    have ha : (BitVec.ofNat 32 (π a).1).toInt = ((π a).1 : Int) := toInt_ofNat_of_lt (w := 32) (by have := (π a).2; omega)
    have hb : (BitVec.ofNat 32 (π c).1).toInt = ((π c).1 : Int) := toInt_ofNat_of_lt (w := 32) (by have := (π c).2; omega)
    have e : comparator_i32_i32_d2 (BitVec.ofNat 32 (π a).1, BitVec.ofNat 32 a.1) (BitVec.ofNat 32 (π c).1, BitVec.ofNat 32 c.1) = if π a < π c then 1#1 else 0#1 := by
      show BitVec.ofBool (BitVec.slt _ _) = _
      rw [BitVec.slt, ha, hb]
      by_cases h : π a < π c
      · rw [if_pos h, decide_eq_true (by exact_mod_cast h)]
        rfl
      · rw [if_neg h, decide_eq_false (by exact_mod_cast h)]
        rfl
    rw [e]
    by_cases h : π a < π c
    · rw [if_pos h, decide_eq_true h]
      rfl
    · rw [if_neg h, decide_eq_false h]
      rfl
  rw [hc]
  have hm : StrictMono fun i => π (sortedFrom (fun a c => decide (π a < π c)) i) := by
    intro a c hac
    have h := sortedFrom_noInversion (fun a c => decide (π a < π c)) (fun a c => decide (π a < π c))
      (by intro a c; simp; omega) (by intro a c h; exact h) (by intro a b c; simp; omega) a c hac
    have h' : ¬ π (sortedFrom (fun a c => decide (π a < π c)) c) < π (sortedFrom (fun a c => decide (π a < π c)) a) := by simpa using h
    refine lt_of_le_of_ne (not_lt.1 h') fun he => ?_
    exact absurd (sortedFrom_injective _ (hπ he)) (ne_of_lt hac)
  exact le_antisymm (hm.apply_le (x := i)) (hm.le_apply (x := i))

/-- The sorts of the reference: in every round and window the positions come in the order of some
    permutation `π`, and the second sort is its inverse. -/
theorem exists_perm (x0 : Vec Ideal S1x192x224x224 .f32) (x9 : Vec Ideal S50x2 .f32) (x10 : Vec Ideal S1x2 .f32) :
    ∃ π σ : Fin 2 → Fin 3136 → Fin 64 → Fin 64, (∀ r b, Function.Bijective (π r b)) ∧ (∀ r b i, π r b (σ r b i) = i) ∧
      (∀ r b k, val_main_v30 (F := Ideal) x0 x9 x10 (ix3 r b k) = BitVec.ofNat 32 (π r b k).1) ∧
      (∀ r b k, val_main_v40 (F := Ideal) x0 x9 x10 (ix3 r b k) = BitVec.ofNat 32 (σ r b k).1) := by
  have h30 : ∃ π : Fin 2 → Fin 3136 → Fin 64 → Fin 64, (∀ r b, Function.Injective (π r b)) ∧
      ∀ r b k, val_main_v30 (F := Ideal) x0 x9 x10 (ix3 r b k) = BitVec.ofNat 32 (π r b k).1 := by
    unfold val_main_v30 val_main_call1_v0
    generalize val_main_v29 (F := Ideal) x0 x9 x10 = y
    exact ⟨fun r b => _, fun r b => sortedFrom_injective _, fun r b k => sort2_iota _ y r b k⟩
  obtain ⟨π, hinj, h30⟩ := h30
  refine ⟨π, fun r b => sortedFrom (fun a c : Fin 64 => comparator_i32_i32_d2 (BitVec.ofNat 32 (π r b a).1, BitVec.ofNat 32 a.1) (BitVec.ofNat 32 (π r b c).1, BitVec.ofNat 32 c.1) == 1#1),
    fun r b => ⟨hinj r b, Finite.injective_iff_surjective.1 (hinj r b)⟩, fun r b i => sorted_inverse _ (hinj r b) i, h30, ?_⟩
  intro r b k
  unfold val_main_v40 val_main_call2_v0
  generalize val_main_v30 (F := Ideal) x0 x9 x10 = y at h30
  rw [sort2_iota]
  simp only [h30]

end Cert.ReferenceIdeal.Closed

end
-- ==== Proof.RefBack.lean ====
/- The reference's way back from hash order, and the two rounds combined. -/
module

public import proofs.«01_k».proof.Proof.RefAttn
public import proofs.«01_k».proof.Proof.RefPerm
public import Idealize.ShloMosaic.Lib.ValueIdx

@[expose] public section

set_option maxRecDepth 16384

noncomputable section

namespace Cert.ReferenceIdeal.Closed

open Idealize.ShloMosaic Idealize.ShloMosaic.WordCmp Idealize.ShloMosaic.Routing Cert.ReferenceIdeal Cert.ReferenceIdeal.Gen Cert.ReferenceIdeal.Read Cert.Spec

variable (x0 : Vec Ideal S1x192x224x224 .f32) (x9 : Vec Ideal S50x2 .f32) (x10 : Vec Ideal S1x2 .f32)
variable (x1 x2 x3 : Vec Ideal S192x576 .f32)

/-- The row numbers of the way back: 64 times the group, plus the position's place. -/
theorem v84_apply (σ : Fin 2 → Fin 3136 → Fin 64 → Fin 64)
    (h40 : ∀ r b k, val_main_v40 (F := Ideal) x0 x9 x10 (ix3 r b k) = BitVec.ofNat 32 (σ r b k).1) (r : Fin 2) (b : Fin 3136) (k : Fin 64) :
    val_main_v84 (F := Ideal) x0 x9 x10 (ix1 ⟨(r.1 * 3136 + b.1) * 64 + k.1, by omega⟩) = BitVec.ofNat 32 ((σ r b k).1 + (r.1 * 3136 + b.1) * 64) := by
  unfold val_main_v84 val_main_v83 val_main_v82 val_main_v81 val_main_v80 val_main_v79 val_main_v78 val_main_v77 val_main_c_7
  generalize val_main_v40 (F := Ideal) x0 x9 x10 = f at h40
  pointwise
  have e1 : (⟨((r.1 * 3136 + b.1) * 64 + k.1) / 200704, by omega⟩ : Fin 2) = r := Fin.ext (by simp only []; omega)
  have e2 : (⟨((r.1 * 3136 + b.1) * 64 + k.1) / 64 % 3136, by omega⟩ : Fin 3136) = b := Fin.ext (by simp only []; omega)
  have e3 : (⟨((r.1 * 3136 + b.1) * 64 + k.1) % 64, by omega⟩ : Fin 64) = k := Fin.ext (by simp only []; omega)
  have e4 : ((r.1 * 3136 + b.1) * 64 + k.1) / 64 = r.1 * 3136 + b.1 := by omega
  simp only [e1, e2, e3, e4, h40]
  show BitVec.ofNat 32 _ + BitVec.ofNat 32 _ * BitVec.ofNat 32 64 = _
  rw [← BitVec.ofNat_mul, ← BitVec.ofNat_add]

/-- A row taken back at a row number in bounds. -/
theorem v86_apply (p : Fin 401408) (d : Fin 144) (n : Fin 401408)
    (h : val_main_v84 (F := Ideal) x0 x9 x10 (ix1 p) = BitVec.ofNat 32 n.1) :
    val_main_v86 (F := Ideal) x0 x1 x2 x3 x9 x10 (ix2 p d) = val_main_v85 (F := Ideal) x0 x1 x2 x3 x9 x10 (ix2 n d) := by
  have h5 : val_main_call7_v5 (F := Ideal) x0 x9 x10 (ix2 p (0 : Fin 1)) = BitVec.ofNat 32 n.1 := by
    unfold val_main_call7_v5 val_main_call7_v4 val_main_call7_v3 val_main_call7_v2 val_main_call7_v1 val_main_call7_v0 val_main_call7_c
    generalize val_main_v84 (F := Ideal) x0 x9 x10 = f at h
    pointwise
    rw [h, slt_zero (by omega)]
    rfl
  have h14 : val_main_call7_v14 (F := Ideal) x0 x9 x10 (ix2 p d) = 1#1 := by
    unfold val_main_call7_v14 val_main_call7_v12 val_main_call7_v11 val_main_call7_v10 val_main_call7_v9 val_main_call7_v8 val_main_call7_v7 val_main_call7_v6 val_main_call7_c_1 val_main_call7_c_2 val_main_call7_c_3
    generalize val_main_call7_v5 (F := Ideal) x0 x9 x10 = f at h5
    pointwise
    rw [show (Finset.univ : Finset (Fin 1)) = {0} from rfl, Finset.fold_singleton, h5, sge_zero (by omega)]
    rw [show IntOp.cmpi .sle (BitVec.ofNat 32 n.1) 401407#32 = 1#1 from sle_bound (N := 401407) (by omega) (by decide)]
    rfl
  have h13 : val_main_call7_v13 (F := Ideal) x0 x1 x2 x3 x9 x10 (ix2 p d) = val_main_v85 (F := Ideal) x0 x1 x2 x3 x9 x10 (ix2 n d) := by
    unfold val_main_call7_v13
    exact gather_row gather_S401408x144_S401408x1_S401408x144_1_0_n_n_0_1_1144 rfl rfl rfl rfl rfl _ _ p d n h5 (by decide)
  unfold val_main_v86
  generalize val_main_call7_v14 (F := Ideal) x0 x9 x10 = m at h14
  generalize val_main_call7_v13 (F := Ideal) x0 x1 x2 x3 x9 x10 = g at h13
  generalize val_main_call7_v15 (F := Ideal) = u
  pointwise
  rw [h14, h13]
  rfl

/-- The attention rows in their own order. -/
theorem v87_apply (σ : Fin 2 → Fin 3136 → Fin 64 → Fin 64)
    (h40 : ∀ r b k, val_main_v40 (F := Ideal) x0 x9 x10 (ix3 r b k) = BitVec.ofNat 32 (σ r b k).1) (r : Fin 2) (b : Fin 3136) (i : Fin 64) (d : Fin 144) :
    val_main_v87 (F := Ideal) x0 x1 x2 x3 x9 x10 (ix4 r b i d) = val_main_v75 (F := Ideal) x0 x1 x2 x3 x9 x10 (ix3 ⟨r.1 * 3136 + b.1, by omega⟩ (σ r b i) d) := by
  have h84 := v84_apply x0 x9 x10 σ h40 r b i
  have h86 := v86_apply x0 x9 x10 x1 x2 x3 ⟨(r.1 * 3136 + b.1) * 64 + i.1, by omega⟩ d ⟨(σ r b i).1 + (r.1 * 3136 + b.1) * 64, by omega⟩ h84
  unfold val_main_v87
  generalize val_main_v86 (F := Ideal) x0 x1 x2 x3 x9 x10 = f at h86
  pointwise
  have e : (⟨r.1 * 200704 + b.1 * 64 + i.1, by omega⟩ : Fin 401408) = ⟨(r.1 * 3136 + b.1) * 64 + i.1, by omega⟩ := Fin.ext (by simp only []; omega)
  rw [e, h86]
  unfold val_main_v85 val_main_v76
  generalize val_main_v75 (F := Ideal) x0 x1 x2 x3 x9 x10 = f
  pointwise
  have e' : (⟨((σ r b i).1 + (r.1 * 3136 + b.1) * 64) / 64, by omega⟩ : Fin 6272) = ⟨r.1 * 3136 + b.1, by omega⟩ := Fin.ext (by simp only []; omega)
  rw [e']

/-- A gather along the last axis reads the entry its index names. -/
theorem gather_along (x : S2x3136x64.Idx → EReal) (idx : IVec S2x3136x64x1 32) (r : Fin 2) (b : Fin 3136) (k n : Fin 64)
    (h : idx (ix4 r b k (0 : Fin 1)) = BitVec.ofNat 32 n.1) :
    Host.gather gather_S2x3136x64_S2x3136x64x1_S2x3136x64_n_2_01_01_2_3_111 x idx (ix3 r b k) = x (ix3 r b n) := by
  have hn : (BitVec.ofNat 32 n.1).toInt = (n.1 : Int) := toInt_ofNat_of_lt (w := 32) (by omega)
  unfold Host.gather
  congr 1
  funext a
  refine Fin.ext ?_
  show gather_S2x3136x64_S2x3136x64x1_S2x3136x64_n_2_01_01_2_3_111.start (ix3 r b k) idx a + gather_S2x3136x64_S2x3136x64x1_S2x3136x64_n_2_01_01_2_3_111.batchCoord (ix3 r b k) a
      + gather_S2x3136x64_S2x3136x64x1_S2x3136x64_n_2_01_01_2_3_111.offCoord (ix3 r b k) a = _
  have h012 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have hsi : gather_S2x3136x64_S2x3136x64x1_S2x3136x64_n_2_01_01_2_3_111.siIdx (ix3 r b k) ⟨List.idxOf (2 : Fin 3) gather_S2x3136x64_S2x3136x64x1_S2x3136x64_n_2_01_01_2_3_111.startIndexMap,
        by decide⟩ = ix4 r b k (0 : Fin 1) := by
      funext b; refine Fin.ext ?_
      match b with
      | ⟨0, _⟩ => rfl
      | ⟨1, _⟩ => rfl
      | ⟨2, _⟩ => rfl
      | ⟨3, _⟩ => rfl
    rw [hsi, h, hn]
    show min n.1 63 = n.1
    omega

/-- The rows' logarithms of sums of exponentials, back in their own order. -/
theorem v89_apply (σ : Fin 2 → Fin 3136 → Fin 64 → Fin 64)
    (h40 : ∀ r b k, val_main_v40 (F := Ideal) x0 x9 x10 (ix3 r b k) = BitVec.ofNat 32 (σ r b k).1) (r : Fin 2) (b : Fin 3136) (i : Fin 64) :
    val_main_v89 (F := Ideal) x0 x1 x2 x9 x10 (ix3 r b i) = val_main_v71 (F := Ideal) x0 x1 x2 x9 x10 (ix3 ⟨r.1 * 3136 + b.1, by omega⟩ (σ r b i) 0) := by
  have hn : (σ r b i).1 < 64 := (σ r b i).2
  have h := h40 r b i
  have h5 : val_main_call8_v5 (F := Ideal) x0 x9 x10 (ix4 r b i (0 : Fin 1)) = BitVec.ofNat 32 (σ r b i).1 := by
    unfold val_main_call8_v5 val_main_call8_v4 val_main_call8_v3 val_main_call8_v2 val_main_call8_v1 val_main_call8_v0 val_main_call8_c
    generalize val_main_v40 (F := Ideal) x0 x9 x10 = f at h
    pointwise
    rw [h, slt_zero (by omega)]
    rfl
  have h12 : val_main_call8_v12 (F := Ideal) x0 x9 x10 (ix3 r b i) = 1#1 := by
    unfold val_main_call8_v12 val_main_call8_v11 val_main_call8_v10 val_main_call8_v9 val_main_call8_v8 val_main_call8_v7 val_main_call8_v6 val_main_call8_c_1 val_main_call8_c_2 val_main_call8_c_3
    generalize val_main_call8_v5 (F := Ideal) x0 x9 x10 = f at h5
    pointwise
    rw [show (Finset.univ : Finset (Fin 1)) = {0} from rfl, Finset.fold_singleton, h5, sge_zero (by omega)]
    rw [show IntOp.cmpi .sle (BitVec.ofNat 32 (σ r b i).1) 63#32 = 1#1 from sle_bound (N := 63) (by omega) (by decide)]
    rfl
  have h13 : val_main_call8_v13 (F := Ideal) x0 x1 x2 x9 x10 (ix3 r b i) = val_main_v88 (F := Ideal) x0 x1 x2 x9 x10 (ix3 r b (σ r b i)) := by
    unfold val_main_call8_v13
    exact gather_along _ _ r b i (σ r b i) h5
  rw [val_main_v89_apply, h12, h13]
  show val_main_v88 (F := Ideal) x0 x1 x2 x9 x10 (ix3 r b (σ r b i)) = _
  unfold val_main_v88
  generalize val_main_v71 (F := Ideal) x0 x1 x2 x9 x10 = f
  pointwise

end Cert.ReferenceIdeal.Closed

end
-- ==== Proof.RefRound.lean ====
/- The reference's way back from hash order, and the two rounds combined. -/
module

public import proofs.«01_k».proof.Proof.RefAttn
public import proofs.«01_k».proof.Proof.RefPerm
public import Idealize.ShloMosaic.Lib.ValueIdx

@[expose] public section

set_option maxRecDepth 16384

noncomputable section

namespace Cert.ReferenceIdeal.Closed

open Idealize.ShloMosaic Idealize.ShloMosaic.WordCmp Idealize.ShloMosaic.Routing Cert.ReferenceIdeal Cert.ReferenceIdeal.Gen Cert.ReferenceIdeal.Read Cert.Spec

variable (x0 : Vec Ideal S1x192x224x224 .f32) (x9 : Vec Ideal S50x2 .f32) (x10 : Vec Ideal S1x2 .f32)
variable (x1 x2 x3 : Vec Ideal S192x576 .f32)

/-- The maximum over the rounds. -/
theorem roundMax (f : FVec Ideal S2x3136x64 .f32) (g : FVec Ideal S_ .f32) (b : Fin 3136) (i : Fin 64) :
    Host.reduce (FloatOps.maximumf (F := Ideal) (φ := .f32)) f g reducesTo_S2x3136x64_S3136x64_d0 h_S_ (ix2 b i) =
      Finset.fold max (g (Shape.Idx.first h_S_)) (fun x => f (ix3 x b i)) Finset.univ := by
  pointwise

/-- Two rounds whose logarithms are one real number weigh one half each. -/
theorem v105_apply (b : Fin 3136) (i : Fin 64) (l : ℝ) (h : ∀ r, val_main_v89 (F := Ideal) x0 x1 x2 x9 x10 (ix3 r b i) = l) (r : Fin 2) :
    val_main_v105 (F := Ideal) x0 x1 x2 x9 x10 (ix3 r b i) = ((1 / 2 : ℝ) : EReal) := by
  have h90 : val_main_v90 (F := Ideal) x0 x1 x2 x9 x10 (ix2 b i) = l := by
    unfold val_main_v90
    generalize val_main_v89 (F := Ideal) x0 x1 x2 x9 x10 = f at h
    rw [roundMax, val_main_cst_8_apply]
    show Finset.fold max (Ideal.ofBits .f32 0xFF800000#32) (fun x => f (ix3 x b i)) Finset.univ = _
    simp only [bits_bot, h]
    show top (fun _ : Fin 2 => (l : EReal)) = l
    rw [top_eq, iSup_const]
  have h93 : val_main_v93 (F := Ideal) (ix3 0 b i) = ⊤ := by
    rw [val_main_v93_apply, val_main_cst_9_apply]
    exact bits_top
  have h91 : val_main_v91 (F := Ideal) x0 x1 x2 x9 x10 (ix3 0 b i) = l := by
    unfold val_main_v91
    generalize val_main_v90 (F := Ideal) x0 x1 x2 x9 x10 = f at h90
    pointwise
    exact h90
  have h94 : val_main_v94 (F := Ideal) x0 x1 x2 x9 x10 (ix3 0 b i) = 1#1 := by
    rw [val_main_v94_apply, val_main_v92_apply, h93, h91]
    exact congrArg BitVec.ofBool (decide_eq_true (abs_lt_top l))
  have h95 : val_main_v95 (F := Ideal) x0 x1 x2 x9 x10 (ix3 0 b i) = l := by
    rw [val_main_v95_apply, h94, h91]
    rfl
  unfold val_main_v105 val_main_v104 val_main_v103 val_main_v102 val_main_v101 val_main_v100 val_main_v99 val_main_v98 val_main_v97 val_main_v96 val_main_cst_11
  generalize val_main_v95 (F := Ideal) x0 x1 x2 x9 x10 = f at h95
  generalize val_main_v89 (F := Ideal) x0 x1 x2 x9 x10 = g at h
  pointwise
  simp only [h95, h, Fin.sum_univ_two]
  exact half l

end Cert.ReferenceIdeal.Closed

end
-- ==== Proof.RefJoin.lean ====
/- The reference's way back from hash order, and the two rounds combined. -/
module

public import proofs.«01_k».proof.Proof.RefBack
public import proofs.«01_k».proof.Proof.RefRound
public import proofs.«01_k».proof.Proof.RefPerm
public import Idealize.ShloMosaic.Lib.ValueIdx

@[expose] public section

set_option maxRecDepth 16384

noncomputable section

namespace Cert.ReferenceIdeal.Closed

open Idealize.ShloMosaic Idealize.ShloMosaic.WordCmp Idealize.ShloMosaic.Routing Cert.ReferenceIdeal Cert.ReferenceIdeal.Gen Cert.ReferenceIdeal.Read Cert.Spec

variable (x0 : Vec Ideal S1x192x224x224 .f32) (x9 : Vec Ideal S50x2 .f32) (x10 : Vec Ideal S1x2 .f32)
variable (x1 x2 x3 : Vec Ideal S192x576 .f32)

/-- One round, back in its own order: the logarithm of a row's sum of exponentials, and the row's attention. -/
theorem round_apply (π σ : Fin 2 → Fin 3136 → Fin 64 → Fin 64) (hπ : ∀ r b, Function.Bijective (π r b)) (hinv : ∀ r b i, π r b (σ r b i) = i)
    (h30 : ∀ r b k, val_main_v30 (F := Ideal) x0 x9 x10 (ix3 r b k) = BitVec.ofNat 32 (π r b k).1)
    (h40 : ∀ r b k, val_main_v40 (F := Ideal) x0 x9 x10 (ix3 r b k) = BitVec.ofNat 32 (σ r b k).1)
    (hT : ∀ i, ∃ r : ℝ, x0 i = r) (hq : ∀ i, ∃ r : ℝ, x1 i = r) (hk : ∀ i, ∃ r : ℝ, x2 i = r) (r : Fin 2) (b : Fin 3136) (i : Fin 64) :
    val_main_v89 (F := Ideal) x0 x1 x2 x9 x10 (ix3 r b i) =
      lse (score (tok x0 ⟨b.1 / 4, by omega⟩) (cols x1 ⟨b.1 % 4, by omega⟩) (cols x2 ⟨b.1 % 4, by omega⟩) i) ∧
    ∀ d, val_main_v87 (F := Ideal) x0 x1 x2 x3 x9 x10 (ix4 r b i d) =
      attn (tok x0 ⟨b.1 / 4, by omega⟩) (cols x1 ⟨b.1 % 4, by omega⟩) (cols x2 ⟨b.1 % 4, by omega⟩) (cols x3 ⟨b.1 % 4, by omega⟩) i d := by
  have h := v75_apply x0 x9 x10 x1 x2 x3 π hπ h30 hT hq hk ⟨r.1 * 3136 + b.1, by omega⟩ (σ r b i)
  have e1 : (⟨(r.1 * 3136 + b.1) / 3136, by omega⟩ : Fin 2) = r := Fin.ext (by simp only []; omega)
  have e2 : (⟨(r.1 * 3136 + b.1) % 3136, by omega⟩ : Fin 3136) = b := Fin.ext (by simp only []; omega)
  have e3 : (⟨(r.1 * 3136 + b.1) % 3136 / 4, by omega⟩ : Fin 784) = ⟨b.1 / 4, by omega⟩ := Fin.ext (by simp only []; omega)
  have e4 : (⟨(r.1 * 3136 + b.1) % 3136 % 4, by omega⟩ : Fin 4) = ⟨b.1 % 4, by omega⟩ := Fin.ext (by simp only []; omega)
  rw [v89_apply x0 x9 x10 x1 x2 σ h40 r b i]
  simp only [v87_apply x0 x9 x10 x1 x2 x3 σ h40 r b i]
  simp only [e1, e2, e3, e4, hinv] at h
  exact h

/-- A round's weight at every channel. -/
theorem v107_apply (r : Fin 2) (b : Fin 3136) (i : Fin 64) (d : Fin 144) :
    val_main_v107 (F := Ideal) x0 x1 x2 x9 x10 (ix4 r b i d) = val_main_v105 (F := Ideal) x0 x1 x2 x9 x10 (ix3 r b i) := by
  unfold val_main_v107 val_main_v106
  generalize val_main_v105 (F := Ideal) x0 x1 x2 x9 x10 = y1
  pointwise

/-- The sum over the rounds. -/
theorem roundSum (f : FVec Ideal S2x3136x64x144 .f32) (b : Fin 3136) (i : Fin 64) (d : Fin 144) :
    Host.reduceAdd f (val_main_cst_12 (F := Ideal)) reducesTo_S2x3136x64x144_S3136x64x144_d0 h_S_ (ix3 b i d) =
      ∑ x : Fin 2, f (ix4 x b i d) := by
  unfold val_main_cst_12
  pointwise

/-- Two rounds that agree, each with weight one half, give what they agree on. -/
theorem halves_apply (b : Fin 3136) (i : Fin 64) (d : Fin 144) (a : EReal)
    (h105 : ∀ r, val_main_v105 (F := Ideal) x0 x1 x2 x9 x10 (ix3 r b i) = ((1 / 2 : ℝ) : EReal))
    (h87 : ∀ r, val_main_v87 (F := Ideal) x0 x1 x2 x3 x9 x10 (ix4 r b i d) = a) :
    val_main_v109 (F := Ideal) x0 x1 x2 x3 x9 x10 (ix3 b i d) = a := by
  unfold val_main_v109
  rw [roundSum, Fin.sum_univ_two, val_main_v108_apply, val_main_v108_apply, v107_apply, v107_apply, h105, h105, h87, h87]
  exact halves a

/-- The attention of every window and head. -/
theorem v109_apply (hT : ∀ i, ∃ r : ℝ, x0 i = r) (hq : ∀ i, ∃ r : ℝ, x1 i = r) (hk : ∀ i, ∃ r : ℝ, x2 i = r)
    (b : Fin 3136) (i : Fin 64) (d : Fin 144) :
    val_main_v109 (F := Ideal) x0 x1 x2 x3 x9 x10 (ix3 b i d) =
      attn (tok x0 ⟨b.1 / 4, by omega⟩) (cols x1 ⟨b.1 % 4, by omega⟩) (cols x2 ⟨b.1 % 4, by omega⟩) (cols x3 ⟨b.1 % 4, by omega⟩) i d := by
  obtain ⟨π, σ, hπ, hinv, h30, h40⟩ := exists_perm x0 x9 x10
  have key := fun r => round_apply x0 x9 x10 x1 x2 x3 π σ hπ hinv h30 h40 hT hq hk r b i
  have hs := score_coe (T := tok x0 ⟨b.1 / 4, by omega⟩) (wq := cols x1 ⟨b.1 % 4, by omega⟩) (wk := cols x2 ⟨b.1 % 4, by omega⟩)
    (fun i c => hT _) (fun c d => hq _) (fun c d => hk _) i
  choose f hf using hs
  obtain ⟨l, hl, -⟩ := lse_coe f
  have hl' := (congrArg lse (funext hf)).trans hl
  exact halves_apply x0 x9 x10 x1 x2 x3 b i d _ (v105_apply x0 x9 x10 x1 x2 b i l fun r => (key r).1.trans hl') fun r => (key r).2 d

end Cert.ReferenceIdeal.Closed

end
-- ==== Proof.RefOut.lean ====
/- The reference's attention branch, windows merged and projected out. -/
module

public import proofs.«01_k».proof.Proof.Spec
public import proofs.«01_k».proof.Proof.RefTok
public import proofs.«01_k».proof.Proof.Gen.ReferenceIdeal.Read

@[expose] public section

set_option maxRecDepth 16384

noncomputable section

namespace Cert.ReferenceIdeal.Closed

open Idealize.ShloMosaic Cert.ReferenceIdeal Cert.ReferenceIdeal.Gen Cert.ReferenceIdeal.Read Cert.Spec

/-- A sum over 576 places is a sum over 4 heads of 144. -/
theorem sum_heads (g : Fin 576 → EReal) : ∑ x, g x = ∑ h : Fin 4, ∑ d : Fin 144, g ⟨h.1 * 144 + d.1, by omega⟩ := by
  rw [← Finset.sum_product', Finset.univ_product_univ, ← Equiv.sum_comp (finProdFinEquiv (m := 4) (n := 144))]
  refine Finset.sum_congr rfl fun x _ => congrArg g (Fin.ext ?_)
  show x.2.1 + 144 * x.1.1 = x.1.1 * 144 + x.2.1
  omega

/-- The attention branch of the reference from the heads' attention. -/
theorem v168_apply (x0 : Vec Ideal S1x192x224x224 .f32) (x1 x2 x3 : Vec Ideal S192x576 .f32) (x4 : Vec Ideal S576x192 .f32) (x9 : Vec Ideal S50x2 .f32) (x10 : Vec Ideal S1x2 .f32)
    (h109 : ∀ b i d, val_main_v109 (F := Ideal) x0 x1 x2 x3 x9 x10 (ix3 b i d) =
      attn (tok x0 ⟨b.1 / 4, by omega⟩) (cols x1 ⟨b.1 % 4, by omega⟩) (cols x2 ⟨b.1 % 4, by omega⟩) (cols x3 ⟨b.1 % 4, by omega⟩) i d)
    (a : Fin 192) (r w : Fin 224) :
    val_main_v168 (F := Ideal) x0 x1 x2 x3 x4 x9 x10 (ix4 0 a r w) =
      attnOut (img x0) (fun c d => x1 (ix2 c d)) (fun c d => x2 (ix2 c d)) (fun c d => x3 (ix2 c d)) (fun d c => x4 (ix2 d c)) a ⟨r.1 * 224 + w.1, by omega⟩ := by
  unfold val_main_v168 val_main_v117 val_main_v116 val_main_v115 val_main_v114 val_main_v113 val_main_v112 val_main_v111 val_main_v110
  generalize val_main_v109 (F := Ideal) x0 x1 x2 x3 x9 x10 = f at h109
  pointwise
  rw [sum_heads]
  unfold attnOut
  refine Finset.sum_congr rfl fun h _ => Finset.sum_congr rfl fun d _ => ?_
  have e1 : (⟨(r.1 / 8 * 28 + w.1 / 8) * 4 + (h.1 * 144 + d.1) / 144, by omega⟩ : Fin 3136) = ⟨(r.1 / 8 * 28 + w.1 / 8) * 4 + h.1, by omega⟩ := Fin.ext (by simp only []; omega)
  have e2 : (⟨(h.1 * 144 + d.1) % 144, by omega⟩ : Fin 144) = d := Fin.ext (by simp only []; omega)
  simp only [e1, e2, h109]
  congr 1
  have e3 : (⟨((r.1 / 8 * 28 + w.1 / 8) * 4 + h.1) / 4, by omega⟩ : Fin 784) = ⟨r.1 / 8 * 28 + w.1 / 8, by omega⟩ := Fin.ext (by simp only []; omega)
  have e4 : (⟨((r.1 / 8 * 28 + w.1 / 8) * 4 + h.1) % 4, by omega⟩ : Fin 4) = h := Fin.ext (by simp only []; omega)
  have e5 : (⟨r.1 % 8 * 8 + w.1 % 8, by omega⟩ : Fin 64) = ⟨(r.1 * 224 + w.1) % 1792 / 224 * 8 + (r.1 * 224 + w.1) % 8, by omega⟩ := Fin.ext (by simp only []; omega)
  rw [e3, e4, e5]
  have e6 : tok x0 ⟨r.1 / 8 * 28 + w.1 / 8, by omega⟩ = fun i c => img x0 c ⟨(r.1 * 224 + w.1) / 1792 * 1792 + i.1 / 8 * 224 + (r.1 * 224 + w.1) / 8 % 28 * 8 + i.1 % 8, by omega⟩ := by
    funext i c
    unfold tok img
    have q1 : (⟨(r.1 / 8 * 28 + w.1 / 8) / 28 * 8 + i.1 / 8, by omega⟩ : Fin 224) = ⟨((r.1 * 224 + w.1) / 1792 * 1792 + i.1 / 8 * 224 + (r.1 * 224 + w.1) / 8 % 28 * 8 + i.1 % 8) / 224, by omega⟩ := Fin.ext (by simp only []; omega)
    have q2 : (⟨(r.1 / 8 * 28 + w.1 / 8) % 28 * 8 + i.1 % 8, by omega⟩ : Fin 224) = ⟨((r.1 * 224 + w.1) / 1792 * 1792 + i.1 / 8 * 224 + (r.1 * 224 + w.1) / 8 % 28 * 8 + i.1 % 8) % 224, by omega⟩ := Fin.ext (by simp only []; omega)
    simp only [q1, q2]
  rw [e6]
  rfl

end Cert.ReferenceIdeal.Closed

end
-- ==== Proof.Tables.Strip0.lean ====
/- A stretch of the table of strip sums, entry by entry: one where the pixel's column of patches is the entry's column, zero elsewhere. -/
module

public import proofs.«01_k».proof.KernelIdeal

@[expose] public section

set_option maxRecDepth 16384

noncomputable section

namespace Cert.KernelIdeal.Strip

open Idealize.ShloMosaic Cert.KernelIdeal

theorem lit0_part0 : ∀ i : Fin 1792, lit0t (0 + i.1) = if (0 + i.1) / 28 % 224 / 8 = (0 + i.1) % 28 then 0x3F800000#32 else 0x00000000#32 := by decide +kernel
theorem lit0_part1 : ∀ i : Fin 1792, lit0t (1792 + i.1) = if (1792 + i.1) / 28 % 224 / 8 = (1792 + i.1) % 28 then 0x3F800000#32 else 0x00000000#32 := by decide +kernel
theorem lit0_part2 : ∀ i : Fin 1792, lit0t (3584 + i.1) = if (3584 + i.1) / 28 % 224 / 8 = (3584 + i.1) % 28 then 0x3F800000#32 else 0x00000000#32 := by decide +kernel
theorem lit0_part3 : ∀ i : Fin 1792, lit0t (5376 + i.1) = if (5376 + i.1) / 28 % 224 / 8 = (5376 + i.1) % 28 then 0x3F800000#32 else 0x00000000#32 := by decide +kernel
theorem lit0_part4 : ∀ i : Fin 1792, lit0t (7168 + i.1) = if (7168 + i.1) / 28 % 224 / 8 = (7168 + i.1) % 28 then 0x3F800000#32 else 0x00000000#32 := by decide +kernel
theorem lit0_part5 : ∀ i : Fin 1792, lit0t (8960 + i.1) = if (8960 + i.1) / 28 % 224 / 8 = (8960 + i.1) % 28 then 0x3F800000#32 else 0x00000000#32 := by decide +kernel
theorem lit0_part6 : ∀ i : Fin 1792, lit0t (10752 + i.1) = if (10752 + i.1) / 28 % 224 / 8 = (10752 + i.1) % 28 then 0x3F800000#32 else 0x00000000#32 := by decide +kernel

end Cert.KernelIdeal.Strip

end
-- ==== Proof.Tables.Strip1.lean ====
/- A stretch of the table of strip sums, entry by entry: one where the pixel's column of patches is the entry's column, zero elsewhere. -/
module

public import proofs.«01_k».proof.KernelIdeal

@[expose] public section

set_option maxRecDepth 16384

noncomputable section

namespace Cert.KernelIdeal.Strip

open Idealize.ShloMosaic Cert.KernelIdeal

theorem lit0_part7 : ∀ i : Fin 1792, lit0t (12544 + i.1) = if (12544 + i.1) / 28 % 224 / 8 = (12544 + i.1) % 28 then 0x3F800000#32 else 0x00000000#32 := by decide +kernel
theorem lit0_part8 : ∀ i : Fin 1792, lit0t (14336 + i.1) = if (14336 + i.1) / 28 % 224 / 8 = (14336 + i.1) % 28 then 0x3F800000#32 else 0x00000000#32 := by decide +kernel
theorem lit0_part9 : ∀ i : Fin 1792, lit0t (16128 + i.1) = if (16128 + i.1) / 28 % 224 / 8 = (16128 + i.1) % 28 then 0x3F800000#32 else 0x00000000#32 := by decide +kernel
theorem lit0_part10 : ∀ i : Fin 1792, lit0t (17920 + i.1) = if (17920 + i.1) / 28 % 224 / 8 = (17920 + i.1) % 28 then 0x3F800000#32 else 0x00000000#32 := by decide +kernel
theorem lit0_part11 : ∀ i : Fin 1792, lit0t (19712 + i.1) = if (19712 + i.1) / 28 % 224 / 8 = (19712 + i.1) % 28 then 0x3F800000#32 else 0x00000000#32 := by decide +kernel
theorem lit0_part12 : ∀ i : Fin 1792, lit0t (21504 + i.1) = if (21504 + i.1) / 28 % 224 / 8 = (21504 + i.1) % 28 then 0x3F800000#32 else 0x00000000#32 := by decide +kernel
theorem lit0_part13 : ∀ i : Fin 1792, lit0t (23296 + i.1) = if (23296 + i.1) / 28 % 224 / 8 = (23296 + i.1) % 28 then 0x3F800000#32 else 0x00000000#32 := by decide +kernel

end Cert.KernelIdeal.Strip

end
-- ==== Proof.Tables.Strip2.lean ====
/- A stretch of the table of strip sums, entry by entry: one where the pixel's column of patches is the entry's column, zero elsewhere. -/
module

public import proofs.«01_k».proof.KernelIdeal

@[expose] public section

set_option maxRecDepth 16384

noncomputable section

namespace Cert.KernelIdeal.Strip

open Idealize.ShloMosaic Cert.KernelIdeal

theorem lit0_part14 : ∀ i : Fin 1792, lit0t (25088 + i.1) = if (25088 + i.1) / 28 % 224 / 8 = (25088 + i.1) % 28 then 0x3F800000#32 else 0x00000000#32 := by decide +kernel
theorem lit0_part15 : ∀ i : Fin 1792, lit0t (26880 + i.1) = if (26880 + i.1) / 28 % 224 / 8 = (26880 + i.1) % 28 then 0x3F800000#32 else 0x00000000#32 := by decide +kernel
theorem lit0_part16 : ∀ i : Fin 1792, lit0t (28672 + i.1) = if (28672 + i.1) / 28 % 224 / 8 = (28672 + i.1) % 28 then 0x3F800000#32 else 0x00000000#32 := by decide +kernel
theorem lit0_part17 : ∀ i : Fin 1792, lit0t (30464 + i.1) = if (30464 + i.1) / 28 % 224 / 8 = (30464 + i.1) % 28 then 0x3F800000#32 else 0x00000000#32 := by decide +kernel
theorem lit0_part18 : ∀ i : Fin 1792, lit0t (32256 + i.1) = if (32256 + i.1) / 28 % 224 / 8 = (32256 + i.1) % 28 then 0x3F800000#32 else 0x00000000#32 := by decide +kernel
theorem lit0_part19 : ∀ i : Fin 1792, lit0t (34048 + i.1) = if (34048 + i.1) / 28 % 224 / 8 = (34048 + i.1) % 28 then 0x3F800000#32 else 0x00000000#32 := by decide +kernel
theorem lit0_part20 : ∀ i : Fin 1792, lit0t (35840 + i.1) = if (35840 + i.1) / 28 % 224 / 8 = (35840 + i.1) % 28 then 0x3F800000#32 else 0x00000000#32 := by decide +kernel

end Cert.KernelIdeal.Strip

end
-- ==== Proof.Tables.Strip3.lean ====
/- A stretch of the table of strip sums, entry by entry: one where the pixel's column of patches is the entry's column, zero elsewhere. -/
module

public import proofs.«01_k».proof.KernelIdeal

@[expose] public section

set_option maxRecDepth 16384

noncomputable section

namespace Cert.KernelIdeal.Strip

open Idealize.ShloMosaic Cert.KernelIdeal

theorem lit0_part21 : ∀ i : Fin 1792, lit0t (37632 + i.1) = if (37632 + i.1) / 28 % 224 / 8 = (37632 + i.1) % 28 then 0x3F800000#32 else 0x00000000#32 := by decide +kernel
theorem lit0_part22 : ∀ i : Fin 1792, lit0t (39424 + i.1) = if (39424 + i.1) / 28 % 224 / 8 = (39424 + i.1) % 28 then 0x3F800000#32 else 0x00000000#32 := by decide +kernel
theorem lit0_part23 : ∀ i : Fin 1792, lit0t (41216 + i.1) = if (41216 + i.1) / 28 % 224 / 8 = (41216 + i.1) % 28 then 0x3F800000#32 else 0x00000000#32 := by decide +kernel
theorem lit0_part24 : ∀ i : Fin 1792, lit0t (43008 + i.1) = if (43008 + i.1) / 28 % 224 / 8 = (43008 + i.1) % 28 then 0x3F800000#32 else 0x00000000#32 := by decide +kernel
theorem lit0_part25 : ∀ i : Fin 1792, lit0t (44800 + i.1) = if (44800 + i.1) / 28 % 224 / 8 = (44800 + i.1) % 28 then 0x3F800000#32 else 0x00000000#32 := by decide +kernel
theorem lit0_part26 : ∀ i : Fin 1792, lit0t (46592 + i.1) = if (46592 + i.1) / 28 % 224 / 8 = (46592 + i.1) % 28 then 0x3F800000#32 else 0x00000000#32 := by decide +kernel
theorem lit0_part27 : ∀ i : Fin 1792, lit0t (48384 + i.1) = if (48384 + i.1) / 28 % 224 / 8 = (48384 + i.1) % 28 then 0x3F800000#32 else 0x00000000#32 := by decide +kernel

end Cert.KernelIdeal.Strip

end
-- ==== Proof.Tables.Cells.lean ====
/- The table of pooling cells, entry by entry: one where the patch lies in the cell, zero elsewhere. -/
module

public import proofs.«01_k».proof.KernelIdeal

@[expose] public section

set_option maxRecDepth 16384

noncomputable section

namespace Cert.KernelIdeal.Strip

open Idealize.ShloMosaic Cert.KernelIdeal

/-- Patch `p` (28 rows of 28) lies in cell `t`: the whole image, a quarter (cells 1 to 4) or a sixteenth (cells 5 to 20). -/
abbrev InCell (p t : ℕ) : Prop := t = 0 ∨ t = 1 + p / 28 / 14 * 2 + p % 28 / 14 ∨ t = 5 + p / 28 / 7 * 4 + p % 28 / 7

theorem lit1_part0 : ∀ i : Fin 2058, lit1t (0 + i.1) = if InCell ((0 + i.1) / 21) ((0 + i.1) % 21) then 0x3F800000#32 else 0x00000000#32 := by decide +kernel
theorem lit1_part1 : ∀ i : Fin 2058, lit1t (2058 + i.1) = if InCell ((2058 + i.1) / 21) ((2058 + i.1) % 21) then 0x3F800000#32 else 0x00000000#32 := by decide +kernel
theorem lit1_part2 : ∀ i : Fin 2058, lit1t (4116 + i.1) = if InCell ((4116 + i.1) / 21) ((4116 + i.1) % 21) then 0x3F800000#32 else 0x00000000#32 := by decide +kernel
theorem lit1_part3 : ∀ i : Fin 2058, lit1t (6174 + i.1) = if InCell ((6174 + i.1) / 21) ((6174 + i.1) % 21) then 0x3F800000#32 else 0x00000000#32 := by decide +kernel
theorem lit1_part4 : ∀ i : Fin 2058, lit1t (8232 + i.1) = if InCell ((8232 + i.1) / 21) ((8232 + i.1) % 21) then 0x3F800000#32 else 0x00000000#32 := by decide +kernel
theorem lit1_part5 : ∀ i : Fin 2058, lit1t (10290 + i.1) = if InCell ((10290 + i.1) / 21) ((10290 + i.1) % 21) then 0x3F800000#32 else 0x00000000#32 := by decide +kernel
theorem lit1_part6 : ∀ i : Fin 2058, lit1t (12348 + i.1) = if InCell ((12348 + i.1) / 21) ((12348 + i.1) % 21) then 0x3F800000#32 else 0x00000000#32 := by decide +kernel
theorem lit1_part7 : ∀ i : Fin 2058, lit1t (14406 + i.1) = if InCell ((14406 + i.1) / 21) ((14406 + i.1) % 21) then 0x3F800000#32 else 0x00000000#32 := by decide +kernel

end Cert.KernelIdeal.Strip

end
-- ==== Proof.TabVal.lean ====
/- The kernel's three tables as real numbers. -/
module

public import proofs.«01_k».proof.Proof.KVal
public import proofs.«01_k».proof.Proof.Tables.Strip0
public import proofs.«01_k».proof.Proof.Tables.Strip1
public import proofs.«01_k».proof.Proof.Tables.Strip2
public import proofs.«01_k».proof.Proof.Tables.Strip3
public import proofs.«01_k».proof.Proof.Tables.Cells

@[expose] public section

set_option maxRecDepth 16384

noncomputable section

namespace Cert.KernelIdeal.Strip

open Idealize.ShloMosaic Cert.KernelIdeal Cert.KernelIdeal.Gen

/-- What holds along a stretch of a table holds at each of its entries. -/
theorem stretch (f g : ℕ → BitVec 32) (o w : ℕ) {n : ℕ} (h : ∀ i : Fin w, f (o + i.1) = g (o + i.1)) (h1 : o ≤ n) (h2 : n < o + w) : f n = g n := by
  have e : o + (n - o) = n := Nat.add_sub_of_le h1
  exact e ▸ h ⟨n - o, by omega⟩

/-- An entry of the table of strip sums: one at the pixel's column of patches. -/
def stripBits (n : ℕ) : BitVec 32 := if n / 28 % 224 / 8 = n % 28 then 0x3F800000#32 else 0x00000000#32

/-- An entry of the table of cells: one where the patch lies in the cell. -/
def cellBits (n : ℕ) : BitVec 32 := if InCell (n / 21) (n % 21) then 0x3F800000#32 else 0x00000000#32

/-- The table of strip sums, entry by entry. -/
theorem lit0t_apply (n : ℕ) (h : n < 50176) : lit0t n = stripBits n := by
  by_cases h0 : n < 1792
  · exact stretch lit0t stripBits 0 1792 lit0_part0 (by omega) (by omega)
  by_cases h1 : n < 3584
  · exact stretch lit0t stripBits 1792 1792 lit0_part1 (by omega) (by omega)
  by_cases h2 : n < 5376
  · exact stretch lit0t stripBits 3584 1792 lit0_part2 (by omega) (by omega)
  by_cases h3 : n < 7168
  · exact stretch lit0t stripBits 5376 1792 lit0_part3 (by omega) (by omega)
  by_cases h4 : n < 8960
  · exact stretch lit0t stripBits 7168 1792 lit0_part4 (by omega) (by omega)
  by_cases h5 : n < 10752
  · exact stretch lit0t stripBits 8960 1792 lit0_part5 (by omega) (by omega)
  by_cases h6 : n < 12544
  · exact stretch lit0t stripBits 10752 1792 lit0_part6 (by omega) (by omega)
  by_cases h7 : n < 14336
  · exact stretch lit0t stripBits 12544 1792 lit0_part7 (by omega) (by omega)
  by_cases h8 : n < 16128
  · exact stretch lit0t stripBits 14336 1792 lit0_part8 (by omega) (by omega)
  by_cases h9 : n < 17920
  · exact stretch lit0t stripBits 16128 1792 lit0_part9 (by omega) (by omega)
  by_cases h10 : n < 19712
  · exact stretch lit0t stripBits 17920 1792 lit0_part10 (by omega) (by omega)
  by_cases h11 : n < 21504
  · exact stretch lit0t stripBits 19712 1792 lit0_part11 (by omega) (by omega)
  by_cases h12 : n < 23296
  · exact stretch lit0t stripBits 21504 1792 lit0_part12 (by omega) (by omega)
  by_cases h13 : n < 25088
  · exact stretch lit0t stripBits 23296 1792 lit0_part13 (by omega) (by omega)
  by_cases h14 : n < 26880
  · exact stretch lit0t stripBits 25088 1792 lit0_part14 (by omega) (by omega)
  by_cases h15 : n < 28672
  · exact stretch lit0t stripBits 26880 1792 lit0_part15 (by omega) (by omega)
  by_cases h16 : n < 30464
  · exact stretch lit0t stripBits 28672 1792 lit0_part16 (by omega) (by omega)
  by_cases h17 : n < 32256
  · exact stretch lit0t stripBits 30464 1792 lit0_part17 (by omega) (by omega)
  by_cases h18 : n < 34048
  · exact stretch lit0t stripBits 32256 1792 lit0_part18 (by omega) (by omega)
  by_cases h19 : n < 35840
  · exact stretch lit0t stripBits 34048 1792 lit0_part19 (by omega) (by omega)
  by_cases h20 : n < 37632
  · exact stretch lit0t stripBits 35840 1792 lit0_part20 (by omega) (by omega)
  by_cases h21 : n < 39424
  · exact stretch lit0t stripBits 37632 1792 lit0_part21 (by omega) (by omega)
  by_cases h22 : n < 41216
  · exact stretch lit0t stripBits 39424 1792 lit0_part22 (by omega) (by omega)
  by_cases h23 : n < 43008
  · exact stretch lit0t stripBits 41216 1792 lit0_part23 (by omega) (by omega)
  by_cases h24 : n < 44800
  · exact stretch lit0t stripBits 43008 1792 lit0_part24 (by omega) (by omega)
  by_cases h25 : n < 46592
  · exact stretch lit0t stripBits 44800 1792 lit0_part25 (by omega) (by omega)
  by_cases h26 : n < 48384
  · exact stretch lit0t stripBits 46592 1792 lit0_part26 (by omega) (by omega)
  exact stretch lit0t stripBits 48384 1792 lit0_part27 (by omega) (by omega)

/-- The table of cells, entry by entry. -/
theorem lit1t_apply (n : ℕ) (h : n < 16464) : lit1t n = cellBits n := by
  by_cases h0 : n < 2058
  · exact stretch lit1t cellBits 0 2058 lit1_part0 (by omega) (by omega)
  by_cases h1 : n < 4116
  · exact stretch lit1t cellBits 2058 2058 lit1_part1 (by omega) (by omega)
  by_cases h2 : n < 6174
  · exact stretch lit1t cellBits 4116 2058 lit1_part2 (by omega) (by omega)
  by_cases h3 : n < 8232
  · exact stretch lit1t cellBits 6174 2058 lit1_part3 (by omega) (by omega)
  by_cases h4 : n < 10290
  · exact stretch lit1t cellBits 8232 2058 lit1_part4 (by omega) (by omega)
  by_cases h5 : n < 12348
  · exact stretch lit1t cellBits 10290 2058 lit1_part5 (by omega) (by omega)
  by_cases h6 : n < 14406
  · exact stretch lit1t cellBits 12348 2058 lit1_part6 (by omega) (by omega)
  exact stretch lit1t cellBits 14406 2058 lit1_part7 (by omega) (by omega)

/-- The pattern of one or of zero, by condition. -/
theorem bits_ite (P : Prop) [Decidable P] : Ideal.ofBits .f32 (if P then 0x3F800000#32 else 0x00000000#32) = (((if P then 1 else 0 : ℝ)) : EReal) := by
  split
  · simp
  · simp

/-- The table of strip sums: one at the pixel's column of patches. -/
theorem tabS_apply (l : Fin 1792) (j : Fin 28) : tabS (ix2 l j) = (((if l.1 % 224 / 8 = j.1 then 1 else 0 : ℝ)) : EReal) := by
  have e : (S1792x28.rowMajor (ix2 l j)).1 = l.1 * 28 + j.1 := Shape.rowMajor_val_two (d := ![1792, 28]) (ix2 l j)
  have h : lit0 (S1792x28.rowMajor (ix2 l j)) = lit0t (l.1 * 28 + j.1) := congrArg lit0t e
  unfold tabS
  rw [h, lit0t_apply _ (by omega)]
  show Ideal.ofBits .f32 (if (l.1 * 28 + j.1) / 28 % 224 / 8 = (l.1 * 28 + j.1) % 28 then 0x3F800000#32 else 0x00000000#32) = _
  rw [show (l.1 * 28 + j.1) / 28 = l.1 by omega, show (l.1 * 28 + j.1) % 28 = j.1 by omega]
  exact bits_ite _

/-- The table of cells: one where the patch lies in the cell. -/
theorem tabP_apply (p : Fin 784) (t : Fin 21) : tabP (ix2 p t) = (((if InCell p.1 t.1 then 1 else 0 : ℝ)) : EReal) := by
  have e : (S784x21.rowMajor (ix2 p t)).1 = p.1 * 21 + t.1 := Shape.rowMajor_val_two (d := ![784, 21]) (ix2 p t)
  have h : lit1 (S784x21.rowMajor (ix2 p t)) = lit1t (p.1 * 21 + t.1) := congrArg lit1t e
  unfold tabP
  rw [h, lit1t_apply _ (by omega)]
  show Ideal.ofBits .f32 (if InCell ((p.1 * 21 + t.1) / 21) ((p.1 * 21 + t.1) % 21) then 0x3F800000#32 else 0x00000000#32) = _
  rw [show (p.1 * 21 + t.1) / 21 = p.1 by omega, show (p.1 * 21 + t.1) % 21 = t.1 by omega]
  exact bits_ite _

/-- The number of pixels of a cell. -/
def cellSize (t : ℕ) : ℝ := if t = 0 then 50176 else if t < 5 then 12544 else 3136

theorem bits_50176 : Ideal.ofBits .f32 0x47440000#32 = ((50176 : ℝ) : EReal) := by
  simp [Ideal.ofBits, Ideal.ieee, -EReal.coe_mul]; norm_num

theorem bits_12544 : Ideal.ofBits .f32 0x46440000#32 = ((12544 : ℝ) : EReal) := by
  simp [Ideal.ofBits, Ideal.ieee, -EReal.coe_mul]; norm_num

theorem bits_3136 : Ideal.ofBits .f32 0x45440000#32 = ((3136 : ℝ) : EReal) := by
  simp [Ideal.ofBits, Ideal.ieee, -EReal.coe_mul]; norm_num

/-- The table of cell sizes, entry by entry. -/
theorem lit2_apply : ∀ t : Fin 21, lit2 t = if t.1 = 0 then 0x47440000#32 else if t.1 < 5 then 0x46440000#32 else 0x45440000#32 := by decide

/-- The table of cell sizes. -/
theorem tabN_apply (t : Fin 21) : tabN (ix2 0 t) = (cellSize t.1 : EReal) := by
  have e : (S1x21.rowMajor (ix2 (0 : Fin 1) t)).1 = t.1 := (Shape.rowMajor_val_two (d := ![1, 21]) (ix2 0 t)).trans (by show 0 * 21 + t.1 = t.1; omega)
  have h : S1x21.rowMajor (ix2 (0 : Fin 1) t) = (t : Fin 21) := Fin.ext e
  unfold tabN cellSize
  rw [h, lit2_apply]
  split
  · exact bits_50176
  split
  · exact bits_12544
  · exact bits_3136

end Cert.KernelIdeal.Strip

end
-- ==== Proof.CellSum.lean ====
/- Sums over the pixels of a pooling cell, by patch and by row and column. -/
module

public import proofs.«01_k».proof.Proof.Tables.Cells
public import proofs.«01_k».proof.Proof.LogSum

@[expose] public section

noncomputable section

namespace Cert.Spec

open Cert.KernelIdeal.Strip

/-- A sum over `a * b` numbers, by quotient and remainder. -/
theorem sum_split {M : Type*} [AddCommMonoid M] (a b : ℕ) (f : ℕ → M) : ∑ i : Fin (a * b), f i.1 = ∑ q : Fin a, ∑ r : Fin b, f (q.1 * b + r.1) := by
  rw [← Finset.sum_product', Finset.univ_product_univ, ← Equiv.sum_comp (finProdFinEquiv (m := a) (n := b))]
  refine Finset.sum_congr rfl fun x _ => congrArg f ?_
  show x.2.1 + b * x.1.1 = x.1.1 * b + x.2.1
  rw [Nat.mul_comm, Nat.add_comm]

/-- A sum over the numbers with one quotient. -/
theorem sum_pick (S z A : ℕ) (hA : A < S) (f : ℕ → ℝ) :
    ∑ r : Fin (S * z), (if r.1 / z = A then f r.1 else 0) = ∑ u : Fin z, f (A * z + u.1) := by
  rw [sum_split S z fun r => if r / z = A then f r else 0]
  have hq : ∀ q : Fin S, ∑ r : Fin z, (if (q.1 * z + r.1) / z = A then f (q.1 * z + r.1) else 0) = if q = ⟨A, hA⟩ then ∑ r : Fin z, f (A * z + r.1) else 0 := by
    intro q
    have hd : ∀ r : Fin z, (q.1 * z + r.1) / z = q.1 := fun r => by
      rw [Nat.mul_comm, Nat.mul_add_div (by have := r.2; omega), Nat.div_eq_of_lt r.2, Nat.add_zero]
    simp only [hd]
    by_cases h : q.1 = A
    · have h' : q = ⟨A, hA⟩ := Fin.ext h
      subst h'
      simp
    · have h' : q ≠ ⟨A, hA⟩ := fun e => h (congrArg Fin.val e)
      simp [h, h']
  simp only [hq, Finset.sum_ite_eq', Finset.mem_univ, if_true]

/-- The sums by patch over a cell of `y` by `y` patches, as one sum over the cell's rows and columns of pixels. -/
theorem cell_sum (X : ℕ → ℝ) (S y A B : ℕ) (hS : S * y = 28) (hA : A < S) (hB : B < S) :
    ∑ p : Fin 784, (∑ l : Fin 1792, X (p.1 / 28 * 1792 + l.1) * (if l.1 % 224 / 8 = p.1 % 28 then 1 else 0)) *
        (if p.1 / 28 / y = A ∧ p.1 % 28 / y = B then 1 else 0) =
      ∑ u : Fin (8 * y), ∑ v : Fin (8 * y), X ((A * (8 * y) + u.1) * 224 + (B * (8 * y) + v.1)) := by
  have hSz : S * (8 * y) = 224 := by rw [Nat.mul_left_comm, hS]
  have hz : ∀ r, r / 8 / y = r / (8 * y) := fun r => Nat.div_div_eq_div_mul r 8 y
  -- the cell's rows and columns, by condition
  have hR : ∑ u : Fin (8 * y), ∑ v : Fin (8 * y), X ((A * (8 * y) + u.1) * 224 + (B * (8 * y) + v.1)) =
      ∑ r : Fin 224, if r.1 / (8 * y) = A then ∑ w : Fin 224, (if w.1 / (8 * y) = B then X (r.1 * 224 + w.1) else 0) else 0 := by
    have h1 := fun a => sum_pick S (8 * y) B hB fun w => X (a * 224 + w)
    have h2 := sum_pick S (8 * y) A hA fun r => ∑ v : Fin (8 * y), X (r * 224 + (B * (8 * y) + v.1))
    rw [hSz] at h1 h2
    rw [← h2]
    refine Finset.sum_congr rfl fun r _ => ?_
    rw [h1]
  rw [hR]
  -- rows of pixels by row of patches
  have hrow := sum_split 28 8 fun r => if r / (8 * y) = A then ∑ w : Fin 224, (if w.1 / (8 * y) = B then X (r * 224 + w.1) else 0) else 0
  rw [show 28 * 8 = 224 from rfl] at hrow
  rw [hrow]
  have hp := sum_split 28 28 fun p => (∑ l : Fin 1792, X (p / 28 * 1792 + l.1) * (if l.1 % 224 / 8 = p % 28 then 1 else 0)) *
        (if p / 28 / y = A ∧ p % 28 / y = B then (1 : ℝ) else 0)
  rw [show 28 * 28 = 784 from rfl] at hp
  rw [hp]
  refine Finset.sum_congr rfl fun q _ => ?_
  have hl : ∀ j : Fin 28, ∑ l : Fin 1792, X (q.1 * 1792 + l.1) * (if l.1 % 224 / 8 = j.1 then (1 : ℝ) else 0) =
      ∑ ρ : Fin 8, ∑ w : Fin 224, X ((q.1 * 8 + ρ.1) * 224 + w.1) * (if w.1 / 8 = j.1 then 1 else 0) := by
    intro j
    have h := sum_split 8 224 fun l => X (q.1 * 1792 + l) * (if l % 224 / 8 = j.1 then (1 : ℝ) else 0)
    rw [show 8 * 224 = 1792 from rfl] at h
    rw [h]
    refine Finset.sum_congr rfl fun ρ _ => Finset.sum_congr rfl fun w _ => ?_
    have hw := w.2
    rw [show (ρ.1 * 224 + w.1) % 224 = w.1 by omega, show q.1 * 1792 + (ρ.1 * 224 + w.1) = (q.1 * 8 + ρ.1) * 224 + w.1 by omega]
  have hj1 : ∀ j : Fin 28, (q.1 * 28 + j.1) / 28 = q.1 := fun j => by omega
  have hj2 : ∀ j : Fin 28, (q.1 * 28 + j.1) % 28 = j.1 := fun j => by omega
  simp only [hj1, hj2, hl]
  have hr : ∀ ρ : Fin 8, (q.1 * 8 + ρ.1) / (8 * y) = q.1 / y := fun ρ => by
    rw [← hz, show (q.1 * 8 + ρ.1) / 8 = q.1 by omega]
  simp only [hr]
  by_cases hq : q.1 / y = A
  · simp only [hq, true_and, if_true]
    simp only [Finset.sum_mul]
    rw [Finset.sum_comm]
    refine Finset.sum_congr rfl fun ρ _ => ?_
    rw [Finset.sum_comm]
    refine Finset.sum_congr rfl fun w _ => ?_
    have hw := w.2
    rw [Finset.sum_eq_single (⟨w.1 / 8, by omega⟩ : Fin 28)]
    · simp only [if_true, mul_one, hz]
      split <;> simp
    · intro j _ hj
      rw [if_neg fun e => hj (Fin.ext e.symm)]
      simp
    · intro h
      exact absurd (Finset.mem_univ _) h
  · simp [hq]

end Cert.Spec

end
-- ==== Proof.RefMod.lean ====
/- The reference's modulation branch at an index. -/
module

public import proofs.«01_k».proof.Proof.Spec
public import proofs.«01_k».proof.Proof.Gen.ReferenceIdeal.Read

@[expose] public section

set_option maxRecDepth 16384

noncomputable section

namespace Cert.ReferenceIdeal.Closed

open Idealize.ShloMosaic Cert.ReferenceIdeal Cert.ReferenceIdeal.Gen Cert.ReferenceIdeal.Read Cert.Spec

theorem ofBits_bot : Ideal.ofBits .f32 0xFF800000#32 = ⊥ := by simp [Ideal.ofBits, Ideal.ieee]

/-- The context matrix: features against the softmax of features. -/
theorem v148_apply (x0 : Vec Ideal S1x192x224x224 .f32) (x7 : Vec Ideal S192x192 .f32) (b a : Fin 192) :
    val_main_v148 (F := Ideal) x0 x7 (ix3 0 b a) = ctx (fun o t => val_main_v136 (F := Ideal) x0 x7 (ix3 0 o t)) b a := by
  unfold ctx soft top
  unfold val_main_v148 val_main_v147 val_main_v146 val_main_v145 val_main_v144 val_main_v143 val_main_v142 val_main_v141 val_main_v140 val_main_v139 val_main_v138 val_main_v137 val_main_cst_19 val_main_cst_20 val_main_cst_21
  generalize val_main_v136 (F := Ideal) x0 x7 = f
  pointwise
  simp only [ofBits_bot, max_eq_right bot_le]

/-- The query at pixel `n`. -/
theorem v154_apply (x0 : Vec Ideal S1x192x224x224 .f32) (x5 : Vec Ideal S192x192 .f32) (x6 : Vec Ideal S192 .f32) (b : Fin 192) (n : Fin 50176) :
    val_main_v154 (F := Ideal) x0 x5 x6 (ix3 0 b n) = quer (fun d c => x5 (ix2 d c)) (fun c => x6 (ix1 c)) (fun d => img x0 d n) b := by
  unfold val_main_v154 val_main_v153 val_main_v152 val_main_v151 val_main_v150 val_main_v149 val_main_v118 val_main_v0
  pointwise
  rfl

/-- The maximum over the channels. -/
theorem foldmax (f : FVec Ideal S1x192x50176 .f32) (g : FVec Ideal S_ .f32) (n : Fin 50176) :
    Host.reduce (FloatOps.maximumf (F := Ideal) (φ := .f32)) f g reducesTo_S1x192x50176_S1x50176_d1 h_S_ (ix2 0 n) =
      Finset.fold max (g (Shape.Idx.first h_S_)) (fun x => f (ix3 0 x n)) Finset.univ := by
  pointwise
/-- The largest query over the channels at pixel `n`. -/
theorem v157_apply (x0 : Vec Ideal S1x192x224x224 .f32) (x5 : Vec Ideal S192x192 .f32) (x6 : Vec Ideal S192 .f32) (n : Fin 50176) :
    val_main_v157 (F := Ideal) x0 x5 x6 (ix2 0 n) = Finset.fold max ⊥ (fun x => val_main_v154 (F := Ideal) x0 x5 x6 (ix3 0 x n)) Finset.univ := by
  rw [val_main_v157_apply, val_main_v156_apply, val_main_cst_23_apply]
  unfold val_main_v155
  generalize val_main_v154 (F := Ideal) x0 x5 x6 = f
  rw [foldmax, val_main_cst_22_apply]
  show max (Ideal.ofBits .f32 0xFF800000#32) (Finset.fold max (Ideal.ofBits .f32 0xFF800000#32) (fun x => f (ix3 0 x n)) Finset.univ) = _
  rw [ofBits_bot]
  exact max_eq_right bot_le

/-- The softmax over the channels of the query at pixel `n`. -/
theorem v165_apply (x0 : Vec Ideal S1x192x224x224 .f32) (x5 : Vec Ideal S192x192 .f32) (x6 : Vec Ideal S192 .f32) (b : Fin 192) (n : Fin 50176) :
    val_main_v165 (F := Ideal) x0 x5 x6 (ix3 0 b n) = soft (quer (fun d c => x5 (ix2 d c)) (fun c => x6 (ix1 c)) fun d => img x0 d n) b := by
  have h1 := v157_apply x0 x5 x6
  have h := v154_apply x0 x5 x6
  unfold soft top
  unfold val_main_v165 val_main_v164 val_main_v163 val_main_v162 val_main_v161 val_main_v160 val_main_v159 val_main_v158 val_main_cst_24
  generalize val_main_v157 (F := Ideal) x0 x5 x6 = g at h1
  generalize val_main_v154 (F := Ideal) x0 x5 x6 = f at h h1
  pointwise
  simp only [h, h1]

/-- A pixel's row and column. -/
theorem img_pixel (x0 : Vec Ideal S1x192x224x224 .f32) (d : Fin 192) (r w : Fin 224) (h) :
    img x0 d ⟨r.1 * 224 + w.1, h⟩ = x0 (ix4 0 d r w) := by
  have e1 : (⟨(r.1 * 224 + w.1) / 224, by omega⟩ : Fin 224) = r := Fin.ext (by simp only []; omega)
  have e2 : (⟨(r.1 * 224 + w.1) % 224, by omega⟩ : Fin 224) = w := Fin.ext (by simp only []; omega)
  unfold img
  simp only [e1, e2]

/-- The reference's modulation branch. -/
theorem v167_apply (x0 : Vec Ideal S1x192x224x224 .f32) (x5 : Vec Ideal S192x192 .f32) (x6 : Vec Ideal S192 .f32) (x7 : Vec Ideal S192x192 .f32) (a : Fin 192) (r w : Fin 224) :
    val_main_v167 (F := Ideal) x0 x5 x6 x7 (ix4 0 a r w) =
      modul (ctx fun o t => val_main_v136 (F := Ideal) x0 x7 (ix3 0 o t)) (quer (fun d c => x5 (ix2 d c)) (fun c => x6 (ix1 c)) fun d => x0 (ix4 0 d r w)) a := by
  unfold modul
  unfold val_main_v167 val_main_v166
  have h1 := v165_apply x0 x5 x6
  have h2 := v148_apply x0 x7
  generalize val_main_v165 (F := Ideal) x0 x5 x6 = f at h1
  generalize val_main_v148 (F := Ideal) x0 x7 = g at h2
  pointwise
  simp only [h1, h2, img_pixel]

end Cert.ReferenceIdeal.Closed

end
-- ==== Proof.RefPool.lean ====
/- The reference's pooled features, cell by cell. -/
module

public import proofs.«01_k».proof.Proof.RefMod
public import Idealize.ShloMosaic.Lib.IdealHost
public import Idealize.ShloMosaic.Lib.ValueIdxRank6

@[expose] public section

set_option maxRecDepth 16384

noncomputable section

namespace Cert.ReferenceIdeal.Closed

open Idealize.ShloMosaic Cert.ReferenceIdeal Cert.ReferenceIdeal.Gen Cert.ReferenceIdeal.Read Cert.Spec

/-- A sum over the fourth and sixth of six axes. -/
theorem pool_sum {n0 n1 n2 n3 n4 n5 : ℕ} (h : (⟨6, ![n0, n1, n2, n3, n4, n5]⟩ : Shape).ReducesTo [3, 5] ⟨4, ![n0, n1, n2, n4]⟩)
    (v : (⟨6, ![n0, n1, n2, n3, n4, n5]⟩ : Shape).Idx → EReal) (init : EReal) (a : Fin n0) (b : Fin n1) (c : Fin n2) (d : Fin n4) :
    Ideal.hostReduceAdd h v init (ix4 a b c d) = init + ∑ u : Fin n3, ∑ w : Fin n5, v (ix6 a b c u d w) := by
  unfold Ideal.hostReduceAdd
  rw [Finset.sum_filter_eq_sum_of_fiber (fun i => h.drop i = ix4 a b c d) (fun k : Fin n3 × Fin n5 => ix6 a b c k.1 d k.2)
    (fun _ _ e => Prod.ext (congrFun e 3) (congrFun e 5)) ?_ v, Fintype.sum_prod_type]
  intro i
  constructor
  · intro e
    refine ⟨(i 3, i 5), ?_⟩
    funext q; apply Fin.ext
    match q with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
    | ⟨4, _⟩ => exact (congrArg Fin.val (congrFun e 3)).symm
    | ⟨5, _⟩ => rfl
  · rintro ⟨k, rfl⟩
    funext q
    apply Fin.ext
    match q with
    | ⟨0, _⟩ => rfl
    | ⟨1, _⟩ => rfl
    | ⟨2, _⟩ => rfl
    | ⟨3, _⟩ => rfl

variable (x0 : Vec Ideal S1x192x224x224 .f32) (x7 : Vec Ideal S192x192 .f32)

/-- The features of a pixel: its channels mixed by the transposed weights. -/
theorem v120_apply (o : Fin 192) (r w : Fin 224) :
    val_main_v120 (F := Ideal) x0 x7 (ix4 0 o r w) = ∑ c : Fin 192, x7 (ix2 c o) * x0 (ix4 0 c r w) := by
  unfold val_main_v120 val_main_v119 val_main_v118 val_main_v0
  pointwise

/-- The sums over 1 by 1 cells. -/
theorem v122_apply (o : Fin 192) (i j : Fin 1) :
    val_main_v122 (F := Ideal) x0 x7 (ix4 0 o i j) = ∑ u : Fin 224, ∑ w : Fin 224, ∑ c : Fin 192, x7 (ix2 c o) * x0 (ix4 0 c ⟨i.1 * 224 + u.1, by omega⟩ ⟨j.1 * 224 + w.1, by omega⟩) := by
  have h : ∀ u w : Fin 224, val_main_v121 (F := Ideal) x0 x7 (ix6 0 o i u j w) = ∑ c : Fin 192, x7 (ix2 c o) * x0 (ix4 0 c ⟨i.1 * 224 + u.1, by omega⟩ ⟨j.1 * 224 + w.1, by omega⟩) := by
    intro u w
    rw [← v120_apply]
    unfold val_main_v121
    generalize val_main_v120 (F := Ideal) x0 x7 = f
    pointwise
  unfold val_main_v122
  rw [ValueIdx.hostReduceAdd_apply, val_main_cst_13_apply]
  refine (pool_sum reducesTo_S1x192x1x224x1x224_S1x192x1x1_d3_5 _ _ 0 o i j).trans ?_
  rw [show (FloatOps.ofBits (F := Ideal) .f32 0x00000000#32) = (0 : EReal) from Ideal.ofBits_zero_f32, zero_add]
  exact Finset.sum_congr rfl fun u _ => Finset.sum_congr rfl fun w _ => h u w

/-- The means over 1 by 1 cells. -/
theorem v125_apply (o : Fin 192) (k : Fin 1) :
    val_main_v125 (F := Ideal) x0 x7 (ix3 0 o k) = Ideal.div (val_main_v122 (F := Ideal) x0 x7 (ix4 0 o ⟨k.1 / 1, by omega⟩ ⟨k.1 % 1, by omega⟩)) (Ideal.ofBits .f32 0x47440000#32) := by
  unfold val_main_v125 val_main_v124 val_main_v123 val_main_cst_14
  generalize val_main_v122 (F := Ideal) x0 x7 = f
  pointwise

/-- The sums over 2 by 2 cells. -/
theorem v127_apply (o : Fin 192) (i j : Fin 2) :
    val_main_v127 (F := Ideal) x0 x7 (ix4 0 o i j) = ∑ u : Fin 112, ∑ w : Fin 112, ∑ c : Fin 192, x7 (ix2 c o) * x0 (ix4 0 c ⟨i.1 * 112 + u.1, by omega⟩ ⟨j.1 * 112 + w.1, by omega⟩) := by
  have h : ∀ u w : Fin 112, val_main_v126 (F := Ideal) x0 x7 (ix6 0 o i u j w) = ∑ c : Fin 192, x7 (ix2 c o) * x0 (ix4 0 c ⟨i.1 * 112 + u.1, by omega⟩ ⟨j.1 * 112 + w.1, by omega⟩) := by
    intro u w
    rw [← v120_apply]
    unfold val_main_v126
    generalize val_main_v120 (F := Ideal) x0 x7 = f
    pointwise
  unfold val_main_v127
  rw [ValueIdx.hostReduceAdd_apply, val_main_cst_15_apply]
  refine (pool_sum reducesTo_S1x192x2x112x2x112_S1x192x2x2_d3_5 _ _ 0 o i j).trans ?_
  rw [show (FloatOps.ofBits (F := Ideal) .f32 0x00000000#32) = (0 : EReal) from Ideal.ofBits_zero_f32, zero_add]
  exact Finset.sum_congr rfl fun u _ => Finset.sum_congr rfl fun w _ => h u w

/-- The means over 2 by 2 cells. -/
theorem v130_apply (o : Fin 192) (k : Fin 4) :
    val_main_v130 (F := Ideal) x0 x7 (ix3 0 o k) = Ideal.div (val_main_v127 (F := Ideal) x0 x7 (ix4 0 o ⟨k.1 / 2, by omega⟩ ⟨k.1 % 2, by omega⟩)) (Ideal.ofBits .f32 0x46440000#32) := by
  unfold val_main_v130 val_main_v129 val_main_v128 val_main_cst_16
  generalize val_main_v127 (F := Ideal) x0 x7 = f
  pointwise

/-- The sums over 4 by 4 cells. -/
theorem v132_apply (o : Fin 192) (i j : Fin 4) :
    val_main_v132 (F := Ideal) x0 x7 (ix4 0 o i j) = ∑ u : Fin 56, ∑ w : Fin 56, ∑ c : Fin 192, x7 (ix2 c o) * x0 (ix4 0 c ⟨i.1 * 56 + u.1, by omega⟩ ⟨j.1 * 56 + w.1, by omega⟩) := by
  have h : ∀ u w : Fin 56, val_main_v131 (F := Ideal) x0 x7 (ix6 0 o i u j w) = ∑ c : Fin 192, x7 (ix2 c o) * x0 (ix4 0 c ⟨i.1 * 56 + u.1, by omega⟩ ⟨j.1 * 56 + w.1, by omega⟩) := by
    intro u w
    rw [← v120_apply]
    unfold val_main_v131
    generalize val_main_v120 (F := Ideal) x0 x7 = f
    pointwise
  unfold val_main_v132
  rw [ValueIdx.hostReduceAdd_apply, val_main_cst_17_apply]
  refine (pool_sum reducesTo_S1x192x4x56x4x56_S1x192x4x4_d3_5 _ _ 0 o i j).trans ?_
  rw [show (FloatOps.ofBits (F := Ideal) .f32 0x00000000#32) = (0 : EReal) from Ideal.ofBits_zero_f32, zero_add]
  exact Finset.sum_congr rfl fun u _ => Finset.sum_congr rfl fun w _ => h u w

/-- The means over 4 by 4 cells. -/
theorem v135_apply (o : Fin 192) (k : Fin 16) :
    val_main_v135 (F := Ideal) x0 x7 (ix3 0 o k) = Ideal.div (val_main_v132 (F := Ideal) x0 x7 (ix4 0 o ⟨k.1 / 4, by omega⟩ ⟨k.1 % 4, by omega⟩)) (Ideal.ofBits .f32 0x45440000#32) := by
  unfold val_main_v135 val_main_v134 val_main_v133 val_main_cst_18
  generalize val_main_v132 (F := Ideal) x0 x7 = f
  pointwise

/-- The features of the one cell, the four and the sixteen, one after another. -/
theorem v136_apply (o : Fin 192) (t : Fin 21) :
    val_main_v136 (F := Ideal) x0 x7 (ix3 0 o t) =
      if h1 : t.1 < 1 then val_main_v125 (F := Ideal) x0 x7 (ix3 0 o ⟨t.1, h1⟩)
      else if h2 : t.1 - 1 < 4 then val_main_v130 (F := Ideal) x0 x7 (ix3 0 o ⟨t.1 - 1, h2⟩)
      else val_main_v135 (F := Ideal) x0 x7 (ix3 0 o ⟨t.1 - 1 - 4, by omega⟩) := by
  unfold val_main_v136
  generalize val_main_v125 (F := Ideal) x0 x7 = f1
  generalize val_main_v130 (F := Ideal) x0 x7 = f2
  generalize val_main_v135 (F := Ideal) x0 x7 = f3
  pointwise

end Cert.ReferenceIdeal.Closed

end
-- ==== Proof.PoolEq.lean ====
/- The kernel's pooled features and the reference's: pooling first or mixing first. -/
module

public import proofs.«01_k».proof.Proof.TabVal
public import proofs.«01_k».proof.Proof.CellSum
public import proofs.«01_k».proof.Proof.RefPool

@[expose] public section

set_option maxRecDepth 16384

noncomputable section

namespace Cert.ReferenceIdeal.Closed

open Idealize.ShloMosaic Cert.ReferenceIdeal Cert.ReferenceIdeal.Gen Cert.ReferenceIdeal.Read Cert.Spec Cert.KernelIdeal.Strip

/-- Channel `c` of a real image, its pixels in order (zero past the last). -/
def pix (X : S1x192x224x224.Idx → ℝ) (c : Fin 192) (n : ℕ) : ℝ :=
  if h : n < 50176 then X (ix4 0 c ⟨n / 224, by omega⟩ ⟨n % 224, by omega⟩) else 0

theorem pix_apply (X : S1x192x224x224.Idx → ℝ) (c : Fin 192) (r w : ℕ) (hr : r < 224) (hw : w < 224) :
    pix X c (r * 224 + w) = X (ix4 0 c ⟨r, hr⟩ ⟨w, hw⟩) := by
  unfold pix
  rw [dif_pos (by omega)]
  have e1 : (⟨(r * 224 + w) / 224, by omega⟩ : Fin 224) = ⟨r, hr⟩ := Fin.ext (by simp only []; omega)
  have e2 : (⟨(r * 224 + w) % 224, by omega⟩ : Fin 224) = ⟨w, hw⟩ := Fin.ext (by simp only []; omega)
  rw [e1, e2]

/-- The sum over a cell by patches. -/
def cellK (P : ℕ → ℝ) (t : ℕ) : ℝ :=
  ∑ p : Fin 784, (∑ l : Fin 1792, P (p.1 / 28 * 1792 + l.1) * (if l.1 % 224 / 8 = p.1 % 28 then 1 else 0)) * (if InCell p.1 t then 1 else 0)

/-- The sum over cell `(A, B)` of `z` by `z` pixels, by rows and columns. -/
def cellR (z : ℕ) (P : ℕ → ℝ) (A B : ℕ) : ℝ := ∑ u : Fin z, ∑ w : Fin z, P ((A * z + u.1) * 224 + (B * z + w.1))

/-- A cell by patches is the cell by rows and columns. -/
theorem cellK_eq (P : ℕ → ℝ) (S y z A B t : ℕ) (hS : S * y = 28) (hz : 8 * y = z) (hA : A < S) (hB : B < S)
    (h : ∀ p, p < 784 → (InCell p t ↔ p / 28 / y = A ∧ p % 28 / y = B)) : cellK P t = cellR z P A B := by
  subst hz
  unfold cellR
  rw [← cell_sum P S y A B hS hA hB]
  unfold cellK
  refine Finset.sum_congr rfl fun p _ => congrArg _ ?_
  exact if_congr (h p.1 p.2) rfl rfl

variable (x0 : Vec Ideal S1x192x224x224 .f32) (x7 : Vec Ideal S192x192 .f32) (X : S1x192x224x224.Idx → ℝ) (W : S192x192.Idx → ℝ)

theorem cellSize_ne (t : ℕ) : cellSize t ≠ 0 := by
  unfold cellSize
  split
  · norm_num
  split <;> norm_num

/-- The kernel's pooled image of a real image. -/
theorem pooled_coe (hX : ∀ i, x0 i = X i) (c : Fin 192) (t : Fin 21) :
    pooledK (img x0) c t = ((cellK (pix X c) t.1 * (1 / cellSize t.1) : ℝ) : EReal) := by
  unfold pooledK cellK
  rw [Finset.sum_mul, coe_sum]
  refine Finset.sum_congr rfl fun p _ => ?_
  rw [tabP_apply, tabN_apply, Ideal.div_coe (cellSize_ne t.1), mul_assoc, EReal.coe_mul, EReal.coe_mul, coe_sum]
  refine congrArg (· * _) (Finset.sum_congr rfl fun l _ => ?_)
  rw [tabS_apply, EReal.coe_mul]
  refine congrArg (· * _) ?_
  unfold img
  have hp := p.2
  have hl := l.2
  have e : p.1 / 28 * 1792 + l.1 = (p.1 / 56 * 3584 + (p.1 / 28 % 2 * 1792 + l.1)) / 224 * 224 + (p.1 / 56 * 3584 + (p.1 / 28 % 2 * 1792 + l.1)) % 224 := by omega
  rw [hX, e, pix_apply X c _ _ (by omega) (by omega)]

/-- The reference's mean over a cell of a real image. -/
theorem mean_coe (hX : ∀ i, x0 i = X i) (hW : ∀ i, x7 i = W i) (o : Fin 192) (z A B : ℕ) (hA : ∀ u : Fin z, A * z + u.1 < 224) (hB : ∀ w : Fin z, B * z + w.1 < 224)
    (N : ℝ) (hN : N ≠ 0) :
    Ideal.div (∑ u : Fin z, ∑ w : Fin z, ∑ c : Fin 192, x7 (ix2 c o) * x0 (ix4 0 c ⟨A * z + u.1, hA u⟩ ⟨B * z + w.1, hB w⟩)) (N : EReal) =
      (((∑ c : Fin 192, W (ix2 c o) * cellR z (pix X c) A B) * (1 / N) : ℝ) : EReal) := by
  rw [Ideal.div_coe hN, EReal.coe_mul]
  refine congrArg (· * _) ?_
  have h : ∑ c : Fin 192, W (ix2 c o) * cellR z (pix X c) A B =
      ∑ u : Fin z, ∑ w : Fin z, ∑ c : Fin 192, W (ix2 c o) * pix X c ((A * z + u.1) * 224 + (B * z + w.1)) := by
    unfold cellR
    simp only [Finset.mul_sum]
    rw [Finset.sum_comm]
    refine Finset.sum_congr rfl fun u _ => ?_
    rw [Finset.sum_comm]
  rw [h, coe_sum]
  refine Finset.sum_congr rfl fun u _ => ?_
  rw [coe_sum]
  refine Finset.sum_congr rfl fun w _ => ?_
  rw [coe_sum]
  refine Finset.sum_congr rfl fun c _ => ?_
  rw [EReal.coe_mul, pix_apply X c _ _ (hA u) (hB w), hX, hW]

/-- Mixing the channels of a pooled real image is linear in the cells' sums. -/
theorem feat_coe (hX : ∀ i, x0 i = X i) (hW : ∀ i, x7 i = W i) (o : Fin 192) (t : Fin 21) (z A B : ℕ)
    (h : ∀ P, cellK P t.1 = cellR z P A B) :
    feat (fun c o => x7 (ix2 c o)) (pooledK (img x0)) o t =
      (((∑ c : Fin 192, W (ix2 c o) * cellR z (pix X c) A B) * (1 / cellSize t.1) : ℝ) : EReal) := by
  unfold feat
  rw [Finset.sum_mul, coe_sum]
  refine Finset.sum_congr rfl fun c _ => ?_
  show x7 (ix2 c o) * pooledK (img x0) c t = _
  rw [pooled_coe x0 X hX, h, mul_assoc, EReal.coe_mul (W _), hW]

/-- The kernel's features, pooled before the channels are mixed, are the reference's, pooled after, where image and weights are real. -/
theorem feat_pooled (hx : ∀ i, ∃ r : ℝ, x0 i = r) (hw : ∀ i, ∃ r : ℝ, x7 i = r) (o : Fin 192) (t : Fin 21) :
    feat (fun c o => x7 (ix2 c o)) (pooledK (img x0)) o t = val_main_v136 (F := Ideal) x0 x7 (ix3 0 o t) := by
  choose X hX using hx
  choose W hW using hw
  have ht := t.2
  rw [v136_apply]
  by_cases h1 : t.1 < 1
  · rw [dif_pos h1, v125_apply, v122_apply, bits_50176,
      feat_coe x0 x7 X W hX hW o t 224 (t.1 / 1) (t.1 % 1) fun P => cellK_eq P 1 28 224 _ _ _ rfl rfl (by omega) (by omega) fun p hp => by unfold InCell; omega]
    have hs : cellSize t.1 = 50176 := by unfold cellSize; rw [if_pos (by omega)]
    rw [hs]
    exact (mean_coe x0 x7 X W hX hW o 224 (t.1 / 1) (t.1 % 1) (fun u => by have := u.2; omega) (fun u => by have := u.2; omega) 50176 (by norm_num)).symm
  rw [dif_neg h1]
  by_cases h2 : t.1 - 1 < 4
  · rw [dif_pos h2, v130_apply, v127_apply, bits_12544,
      feat_coe x0 x7 X W hX hW o t 112 ((t.1 - 1) / 2) ((t.1 - 1) % 2) fun P => cellK_eq P 2 14 112 _ _ _ rfl rfl (by omega) (by omega) fun p hp => by unfold InCell; omega]
    have hs : cellSize t.1 = 12544 := by unfold cellSize; rw [if_neg (by omega), if_pos (by omega)]
    rw [hs]
    exact (mean_coe x0 x7 X W hX hW o 112 ((t.1 - 1) / 2) ((t.1 - 1) % 2) (fun u => by have := u.2; omega) (fun u => by have := u.2; omega) 12544 (by norm_num)).symm
  · rw [dif_neg h2, v135_apply, v132_apply, bits_3136,
      feat_coe x0 x7 X W hX hW o t 56 ((t.1 - 1 - 4) / 4) ((t.1 - 1 - 4) % 4) fun P => cellK_eq P 4 7 56 _ _ _ rfl rfl (by omega) (by omega) fun p hp => by unfold InCell; omega]
    have hs : cellSize t.1 = 3136 := by unfold cellSize; rw [if_neg (by omega), if_neg (by omega)]
    rw [hs]
    exact (mean_coe x0 x7 X W hX hW o 56 ((t.1 - 1 - 4) / 4) ((t.1 - 1 - 4) % 4) (fun u => by have := u.2; omega) (fun u => by have := u.2; omega) 3136 (by norm_num)).symm

end Cert.ReferenceIdeal.Closed

end
-- ==== Proof.RefEq.lean ====
/- The reference's result in closed form, and its equality with the kernel's. -/
module

public import proofs.«01_k».proof.Proof.RefJoin
public import proofs.«01_k».proof.Proof.RefOut
public import proofs.«01_k».proof.Proof.PoolEq

@[expose] public section

set_option maxRecDepth 16384

noncomputable section

namespace Cert.ReferenceIdeal.Closed

open Idealize.ShloMosaic Cert.ReferenceIdeal Cert.ReferenceIdeal.Gen Cert.ReferenceIdeal.Read Cert.Spec Cert.KernelIdeal.Strip

variable (x0 : Vec Ideal S1x192x224x224 .f32) (x1 x2 x3 : Vec Ideal S192x576 .f32) (x4 : Vec Ideal S576x192 .f32)
variable (x5 : Vec Ideal S192x192 .f32) (x6 : Vec Ideal S192 .f32) (x7 : Vec Ideal S192x192 .f32) (x8 : Vec Ideal S192x2 .f32)
variable (x9 : Vec Ideal S50x2 .f32) (x10 : Vec Ideal S1x2 .f32)

/-- The first depthwise weight at every pixel of its channel. -/
theorem v172_apply (a : Fin 192) (r w : Fin 224) : val_main_v172 (F := Ideal) x8 (ix4 0 a r w) = x8 (ix2 a 0) := by
  unfold val_main_v172 val_main_v171 val_main_v170 val_main_v169
  pointwise

/-- The second depthwise weight at every pixel of its channel. -/
theorem v177_apply (a : Fin 192) (r w : Fin 224) : val_main_v177 (F := Ideal) x8 (ix4 0 a r w) = x8 (ix2 a 1) := by
  unfold val_main_v177 val_main_v176 val_main_v175 val_main_v174
  pointwise

/-- The reference's result at a pixel: the attention and the modulation, each times its weight of the channel, for a real image and real query,
    key and feature weights. -/
theorem v179_apply (h0 : ∀ i, ∃ r : ℝ, x0 i = r) (h1 : ∀ i, ∃ r : ℝ, x1 i = r) (h2 : ∀ i, ∃ r : ℝ, x2 i = r) (h7 : ∀ i, ∃ r : ℝ, x7 i = r)
    (a : Fin 192) (r w : Fin 224) :
    val_main_v179 (F := Ideal) x0 x1 x2 x3 x4 x5 x6 x7 x8 x9 x10 (ix4 0 a r w) =
      attnOut (img x0) (fun c d => x1 (ix2 c d)) (fun c d => x2 (ix2 c d)) (fun c d => x3 (ix2 c d)) (fun d c => x4 (ix2 d c)) a ⟨r.1 * 224 + w.1, by omega⟩ * x8 (ix2 a 0) +
        modul (ctx (feat (fun c o => x7 (ix2 c o)) (pooledK (img x0)))) (quer (fun d c => x5 (ix2 d c)) (fun c => x6 (ix1 c)) fun d => x0 (ix4 0 d r w)) a * x8 (ix2 a 1) := by
  have hf : (fun o t => val_main_v136 (F := Ideal) x0 x7 (ix3 0 o t)) = feat (fun c o => x7 (ix2 c o)) (pooledK (img x0)) :=
    funext fun o => funext fun t => (feat_pooled x0 x7 h0 h7 o t).symm
  have hM := v167_apply x0 x5 x6 x7 a r w
  rw [hf] at hM
  rw [val_main_v179_apply, val_main_v173_apply, val_main_v178_apply, v172_apply, v177_apply, hM,
    v168_apply x0 x1 x2 x3 x4 x9 x10 (v109_apply x0 x9 x10 x1 x2 x3 h0 h1 h2) a r w]
  rfl

/-- The reference's result as a function of the pixel. -/
theorem v179_eq (h0 : ∀ i, ∃ r : ℝ, x0 i = r) (h1 : ∀ i, ∃ r : ℝ, x1 i = r) (h2 : ∀ i, ∃ r : ℝ, x2 i = r) (h7 : ∀ i, ∃ r : ℝ, x7 i = r) :
    val_main_v179 (F := Ideal) x0 x1 x2 x3 x4 x5 x6 x7 x8 x9 x10 = fun i : S1x192x224x224.Idx =>
      attnOut (img x0) (fun c d => x1 (ix2 c d)) (fun c d => x2 (ix2 c d)) (fun c d => x3 (ix2 c d)) (fun d c => x4 (ix2 d c)) (i 1)
          ⟨(i 2).1 * 224 + (i 3).1, by have h1 : (i 2).1 < 224 := (i 2).2; have h2 : (i 3).1 < 224 := (i 3).2; omega⟩ * x8 (ix2 (i 1) 0) +
        modul (ctx (feat (fun c o => x7 (ix2 c o)) (pooledK (img x0)))) (quer (fun d c => x5 (ix2 d c)) (fun c => x6 (ix1 c)) fun d => x0 (ix4 0 d (i 2) (i 3))) (i 1) * x8 (ix2 (i 1) 1) := by
  funext i
  have hi : i = (ix4 (0 : Fin 1) (i 1 : Fin 192) (i 2 : Fin 224) (i 3 : Fin 224) : S1x192x224x224.Idx) := by
    funext q
    match q with
    | ⟨0, _⟩ => exact Subsingleton.elim (α := Fin 1) _ _
    | ⟨1, _⟩ => rfl
    | ⟨2, _⟩ => rfl
    | ⟨3, _⟩ => rfl
  exact (congrArg (val_main_v179 (F := Ideal) x0 x1 x2 x3 x4 x5 x6 x7 x8 x9 x10) hi).trans
    (v179_apply x0 x1 x2 x3 x4 x5 x6 x7 x8 x9 x10 h0 h1 h2 h7 (i 1) (i 2) (i 3))

end Cert.ReferenceIdeal.Closed

end
-- ==== Proof.PreFin.lean ====
/- What the precondition says: every entry of the image and of three weight matrices is a real number. -/
module

public import proofs.«01_k».proof.Pre_finite
public import proofs.«01_k».proof.Proof.RefAttn
public import Idealize.ShloMosaic.Lib.Affine

@[expose] public section

noncomputable section

namespace Cert.Pre_finite

open Idealize.ShloMosaic Cert.Spec

/-- The shape relations of the precondition's operations. -/
theorem facts : Cert.Pre_finite.Facts where
  bcast_S_S1x192x224x224 := by decide
  reducesTo_S1x192x224x224_S_d0_1_2_3 := by decide
  h_S_ := by decide
  bcast_S_S192x576 := by decide
  reducesTo_S192x576_S_d0_1 := by decide
  bcast_S_S192x192 := by decide
  reducesTo_S192x192_S_d0_1 := by decide

/-- Two one-bit words whose conjunction is one are both one. -/
theorem and_split {c d : BitVec 1} (h : IntOp.andi c d = 1#1) : c = 1#1 ∧ d = 1#1 := by
  revert c d; decide

/-- A conjunction of one-bit words is one only where each of them is. -/
theorem fold_and {ι : Type} (s : Finset ι) (f : ι → BitVec 1) : s.fold IntOp.andi 1#1 f = 1#1 → ∀ i ∈ s, f i = 1#1 := by
  classical
  induction s using Finset.induction_on with
  | empty => intro _ i hi; exact absurd hi (Finset.notMem_empty i)
  | insert a s ha ih =>
    intro h i hi
    rw [Finset.fold_insert ha] at h
    have h2 := and_split h
    rcases Finset.mem_insert.mp hi with rfl | hi
    · exact h2.1
    · exact ih h2.2 i hi

/-- A reduction by conjunction to a scalar that is one has only ones. -/
theorem all_of_reduce {s : Shape} {axes : List (Fin s.rank)} (h : s.ReducesTo axes S_) (hu : 0 < S_.numel) (x : IVec s 1) (j : S_.Idx)
    (hx : Host.reduce IntOp.andi x (constantI S_ 1 1#1) h hu j = 1#1) (i : s.Idx) : x i = 1#1 := by
  rw [Host.reduce_eq_fold] at hx
  exact fold_and _ _ hx i (Finset.mem_filter.mpr ⟨Finset.mem_univ _, funext fun b => b.elim0⟩)

/-- An array whose absolute values are all below infinity holds real numbers. -/
theorem real_of_reduce {s : Shape} {axes : List (Fin s.rank)} (h : s.ReducesTo axes S_) (hu : 0 < S_.numel) (hb : S_.BroadcastsInDim s ![])
    (a : FVec Ideal s .f32) (j : S_.Idx)
    (hx : Host.reduce IntOp.andi (cmpf .olt (Host.absf a) (broadcastInDim s ![] hb (constant S_ .f32 0x7F800000#32))) (constantI S_ 1 1#1) h hu j = 1#1) (i : s.Idx) :
    ∃ r : ℝ, a i = r := by
  have hi : BitVec.ofBool (decide (max (a i) (-a i) < Ideal.ofBits .f32 0x7F800000#32)) = 1#1 := all_of_reduce h hu _ j hx i
  rw [Cert.ReferenceIdeal.Closed.bits_top] at hi
  exact coe_of_abs_lt (WordCmp.ofBool_decide_eq_one_iff _ |>.mp hi)

/-- The precondition, decoded. -/
theorem real_of_finite [Facts] (x0 : FVec Ideal S1x192x224x224 .f32) (x1 x2 x3 : FVec Ideal S192x576 .f32) (x4 : FVec Ideal S576x192 .f32)
    (x5 : FVec Ideal S192x192 .f32) (x6 : FVec Ideal S192 .f32) (x7 : FVec Ideal S192x192 .f32) (x8 : FVec Ideal S192x2 .f32)
    (x9 : FVec Ideal S50x2 .f32) (x10 : FVec Ideal S1x2 .f32) (h : fn (F := Ideal) x0 x1 x2 x3 x4 x5 x6 x7 x8 x9 x10 = fun _ => 1#1) :
    (∀ i, ∃ r : ℝ, x0 i = r) ∧ (∀ i, ∃ r : ℝ, x1 i = r) ∧ (∀ i, ∃ r : ℝ, x2 i = r) ∧ ∀ i, ∃ r : ℝ, x7 i = r := by
  have h0 := congrFun h ix0
  unfold fn fn_part1 at h0
  have h3 := and_split h0
  have h2 := and_split h3.1
  have h1 := and_split h2.1
  exact ⟨real_of_reduce _ _ _ x0 ix0 h1.1, real_of_reduce _ _ _ x1 ix0 h1.2, real_of_reduce _ _ _ x2 ix0 h2.2, real_of_reduce _ _ _ x7 ix0 h3.2⟩

end Cert.Pre_finite

end
-- ==== Proof.lean ====
/- The claim: each program's frame, the idealized kernel the kernel's own text, and its result the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

public import proofs.«01_k».proof.Proof.Gen.ReferenceIdeal
public import proofs.«01_k».proof.Proof.Gen.ReferenceIdeal.Run
public import proofs.«01_k».proof.Proof.Gen.ReferenceIdeal.Read
public import proofs.«01_k».proof.Proof.KRun
public import proofs.«01_k».proof.Proof.RefEq
public import proofs.«01_k».proof.Proof.PreFin
public import Idealize.ShloMosaic.Adequacy
public import Idealize.ShloMosaic.Init

@[expose] public section

noncomputable section

namespace Cert.Proof

open Idealize.ShloMosaic Idealize.SL.Sem Cert.Kernel

/-- The reference runs, and its arguments and semaphores end as they were. -/
theorem frame_reference : @Cert.quiescent_ReferenceIdeal Cert.ReferenceIdeal.Gen.facts := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- On a finite image and finite query, key and feature weights, the kernel's result and the reference's are one array: the attention of each
    patch, in whatever order its tokens are taken, plus the modulation, over pooled features that may be mixed before or after pooling. -/
theorem algebraic [Cert.Pre_finite.Facts] : @Cert.algebraic_KernelIdeal_ReferenceIdeal_pre_finite Cert.KernelIdeal.Gen.facts Cert.ReferenceIdeal.Gen.facts _ := by
  intro m ρ m' ρ' hpre hagree
  refine ⟨_, Cert.KernelIdeal.Strip.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, -, -⟩ := hagree c
  obtain ⟨r0, r1, r2, r7⟩ := Cert.Pre_finite.real_of_finite _ _ _ _ _ _ _ _ _ _ _ (hpre c)
  rw [Cert.KernelIdeal.Strip.W7_out m ρ c _ _ _ _ _ _ _ _ _ e0.symm e1.symm e2.symm e3.symm e4.symm e5.symm e6.symm e7.symm e8.symm]
  rw [← e0] at r0
  rw [← e1] at r1
  rw [← e2] at r2
  rw [← e7] at r7
  exact (Cert.ReferenceIdeal.Read.val_main_v179_eq _).trans
    (Cert.ReferenceIdeal.Closed.v179_eq _ _ _ _ _ _ _ _ _ _ _ r0 r1 r2 r7)

theorem claim : Cert.Claim :=
  ⟨Cert.Kernel.Gen.facts, Cert.KernelIdeal.Gen.facts, Cert.ReferenceIdeal.Gen.facts, Cert.Pre_finite.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  trivial,
  @algebraic Cert.Pre_finite.facts⟩

end Cert.Proof

end
